-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_sorted [hPre_finite_sorted : Cert.Pre_finite_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.1 = (fun _ => 1#1)
    ∧ (Cert.Pre_finite_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_sorted [hPre_finite_sorted : Cert.Pre_finite_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.1 = (fun _ => 1#1)
    ∧ (Cert.Pre_finite_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_sorted [hKernelIdeal : Cert.KernelIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_sorted [hReferenceIdeal : Cert.ReferenceIdeal.Facts] [hPre_finite_sorted : Cert.Pre_finite_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "qjl_scale" .f32 0x3C206C99#32 (((Real.sqrt (13176795 / 8388608)) * (1 / 128) : ℝ) : EReal)

def algebraic_KernelIdeal_ReferenceIdeal_pre_finite_sorted [hKernelIdeal : Cert.KernelIdeal.Facts] [hReferenceIdeal : Cert.ReferenceIdeal.Facts] [hPre_finite_sorted : Cert.Pre_finite_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_sorted : Cert.Pre_finite_sorted.Facts),
    quiescent_Kernel (hKernel := hKernel)
    ∧ quiescent_KernelIdeal (hKernelIdeal := hKernelIdeal)
    ∧ quiescent_KernelIdeal_pre_finite_sorted (hKernelIdeal := hKernelIdeal) (hPre_finite_sorted := hPre_finite_sorted)
    ∧ quiescent_ReferenceIdeal (hReferenceIdeal := hReferenceIdeal)
    ∧ quiescent_ReferenceIdeal_pre_finite_sorted (hReferenceIdeal := hReferenceIdeal) (hPre_finite_sorted := hPre_finite_sorted)
    ∧ preserves_Kernel_KernelIdeal
    ∧ algebraic_KernelIdeal_ReferenceIdeal_pre_finite_sorted (hKernelIdeal := hKernelIdeal) (hReferenceIdeal := hReferenceIdeal) (hPre_finite_sorted := hPre_finite_sorted)
-- ==== Pre_finite_sorted.lean ====
abbrev S4096x256 : Shape := ⟨2, ![4096, 256]⟩
abbrev S256x256 : Shape := ⟨2, ![256, 256]⟩
abbrev S4 : Shape := ⟨1, ![4]⟩
abbrev S2 : Shape := ⟨1, ![2]⟩
abbrev S128x128 : Shape := ⟨2, ![128, 128]⟩
abbrev S_ : Shape := ⟨0, ![]⟩
abbrev S3 : Shape := ⟨1, ![3]⟩
abbrev S1 : Shape := ⟨1, ![1]⟩

class Facts : Prop where
  bcast_S_S4096x256 : S_.BroadcastsInDim S4096x256 (![] : Fin 0 → Fin S4096x256.rank)
  bcast_S_S256x256 : S_.BroadcastsInDim S256x256 (![] : Fin 0 → Fin S256x256.rank)
  bcast_S_S4 : S_.BroadcastsInDim S4 (![] : Fin 0 → Fin S4.rank)
  bcast_S_S2 : S_.BroadcastsInDim S2 (![] : Fin 0 → Fin S2.rank)
  bcast_S_S128x128 : S_.BroadcastsInDim S128x128 (![] : Fin 0 → Fin S128x128.rank)
  slices_S4_S3_0 : S4.Slices ![0] S3
  slices_S4_S3_1 : S4.Slices ![1] S3
  slices_S2_S1_0 : S2.Slices ![0] S1
  slices_S2_S1_1 : S2.Slices ![1] S1

variable [Facts]

def fn_part1 {F : FTy → Type} [FloatOps F] (main_arg3 : FVec F S4 .f32) (main_arg4 : FVec F S2 .f32) (main_arg6 : FVec F S128x128 .f32) (main_v2 : IVec S4096x256 1) (main_v5 : IVec S4096x256 1) (main_v8 : IVec S256x256 1) (main_v11 : IVec S4 1) (main_v14 : IVec S2 1) (main_v17 : IVec S128x128 1) : IVec S4096x256 1 × IVec S4096x256 1 × IVec S256x256 1 × IVec S4 1 × IVec S2 1 × IVec S128x128 1 × IVec S128x128 1 × IVec S3 1 × IVec S1 1 :=
  let main_v18 : FVec F S128x128 .f32 := Host.absf main_arg6
  let main_cst_5 : FVec F S_ .f32 := constant S_ .f32 0x7F800000#32
  let main_v19 : FVec F S128x128 .f32 := broadcastInDim S128x128 ![] bcast_S_S128x128 main_cst_5
  let main_v20 : IVec S128x128 1 := cmpf .olt main_v18 main_v19
  let main_v21 : FVec F S3 .f32 := (extractStridedSlice S3 ![0] · slices_S4_S3_0) main_arg3
  let main_v22 : FVec F S3 .f32 := (extractStridedSlice S3 ![1] · slices_S4_S3_1) main_arg3
  let main_v23 : IVec S3 1 := cmpf .ole main_v21 main_v22
  let main_v24 : FVec F S1 .f32 := (extractStridedSlice S1 ![0] · slices_S2_S1_0) main_arg4
  let main_v25 : FVec F S1 .f32 := (extractStridedSlice S1 ![1] · slices_S2_S1_1) main_arg4
  let main_v26 : IVec S1 1 := cmpf .ole main_v24 main_v25
  (main_v2, main_v5, main_v8, main_v11, main_v14, main_v17, main_v20, main_v23, main_v26)

def fn {F : FTy → Type} [FloatOps F] (main_arg0 : FVec F S4096x256 .f32) (main_arg1 : FVec F S4096x256 .f32) (main_arg2 : FVec F S256x256 .f32) (main_arg3 : FVec F S4 .f32) (main_arg4 : FVec F S2 .f32) (main_arg5 : FVec F S128x128 .f32) (main_arg6 : FVec F S128x128 .f32) : IVec S4096x256 1 × IVec S4096x256 1 × IVec S256x256 1 × IVec S4 1 × IVec S2 1 × IVec S128x128 1 × IVec S128x128 1 × IVec S3 1 × IVec S1 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S256x256 .f32 := Host.absf main_arg2
  let main_cst_1 : FVec F S_ .f32 := constant S_ .f32 0x7F800000#32
  let main_v7 : FVec F S256x256 .f32 := broadcastInDim S256x256 ![] bcast_S_S256x256 main_cst_1
  let main_v8 : IVec S256x256 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S2 .f32 := Host.absf main_arg4
  let main_cst_3 : FVec F S_ .f32 := constant S_ .f32 0x7F800000#32
  let main_v13 : FVec F S2 .f32 := broadcastInDim S2 ![] bcast_S_S2 main_cst_3
  let main_v14 : IVec S2 1 := cmpf .olt main_v12 main_v13
  let main_v15 : FVec F S128x128 .f32 := Host.absf main_arg5
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg3 main_arg4 main_arg6 main_v2 main_v5 main_v8 main_v11 main_v14 main_v17
-- ==== Kernel.lean ====
abbrev S4096x256 : Shape := ⟨2, ![4096, 256]⟩
abbrev S256x256 : Shape := ⟨2, ![256, 256]⟩
abbrev S4 : Shape := ⟨1, ![4]⟩
abbrev S2 : Shape := ⟨1, ![2]⟩
abbrev S128x128 : Shape := ⟨2, ![128, 128]⟩
abbrev S4096x4096 : Shape := ⟨2, ![4096, 4096]⟩
abbrev S512x256 : Shape := ⟨2, ![512, 256]⟩
abbrev S4096x512 : Shape := ⟨2, ![4096, 512]⟩
abbrev S1024x256 : Shape := ⟨2, ![1024, 256]⟩
abbrev S_ : Shape := ⟨0, ![]⟩
abbrev S512 : Shape := ⟨1, ![512]⟩
abbrev S512x1 : Shape := ⟨2, ![512, 1]⟩
abbrev S128x256 : Shape := ⟨2, ![128, 256]⟩
abbrev S512x128 : Shape := ⟨2, ![512, 128]⟩
abbrev S1 : Shape := ⟨1, ![1]⟩

abbrev nBuf : Space → Nat
  | .hbm => 8
  | .vmem => 11
  | .smem => 2
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S4, .f32⟩
  | .hbm, ⟨4, _⟩ => ⟨S2, .f32⟩
  | .hbm, ⟨5, _⟩ => ⟨S128x128, .f32⟩
  | .hbm, ⟨6, _⟩ => ⟨S128x128, .f32⟩
  | .hbm, ⟨7, _⟩ => ⟨S4096x4096, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S256x256, .f32⟩
  | .local _ .vmem, ⟨4, _⟩ => ⟨S128x128, .f32⟩
  | .local _ .vmem, ⟨5, _⟩ => ⟨S128x128, .f32⟩
  | .local _ .vmem, ⟨6, _⟩ => ⟨S4096x512, .f32⟩
  | .local _ .vmem, ⟨7, _⟩ => ⟨S4096x512, .f32⟩
  | .local _ .vmem, ⟨8, _⟩ => ⟨S1024x256, .bf16⟩
  | .local _ .vmem, ⟨9, _⟩ => ⟨S4096x256, .bf16⟩
  | .local _ .vmem, ⟨10, _⟩ => ⟨S4096x256, .f32⟩
  | .local _ .smem, ⟨0, _⟩ => ⟨S4, .f32⟩
  | .local _ .smem, ⟨1, _⟩ => ⟨S2, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c2_i32 : BitVec 32 := 2#32
  let v0 : BitVec 32 := Scalar.remsi arg0 c2_i32
  let c512_i32 : BitVec 32 := 512#32
  let v5 : BitVec 32 := Scalar.muli v0 c512_i32
  v5
def k0_off1 (i : grid0.Coords) : Fin 2 → Nat :=
  let arg0 : BitVec 32 := BitVec.ofNat 32 (i 0).val
  let c2_i32 : BitVec 32 := 2#32
  let v0 : BitVec 32 := Scalar.remsi arg0 c2_i32
  let c512_i32 : BitVec 32 := 512#32
  let v5 : BitVec 32 := Scalar.muli v0 c512_i32
  let v6 : BitVec 32 := v5
  let v7 : Index := Scalar.indexCast v6
  let c0 : Index := 0#32
  ![v7.toNat, 0]
def k0_mult2 (i : grid0.Coords) : BitVec 32 :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c512_i32_52 : BitVec 32 := 512#32
  let v126 : BitVec 32 := Scalar.muli v1 c512_i32_52
  v126
def k0_off2 (i : grid0.Coords) : Fin 2 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let c512_i32_52 : BitVec 32 := 512#32
  let v126 : BitVec 32 := Scalar.muli v1 c512_i32_52
  let v127 : BitVec 32 := v126
  let v128 : Index := Scalar.indexCast v127
  let c0_53 : Index := 0#32
  ![v128.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "qjl_scale" => some (((Real.sqrt (13176795 / 8388608)) * (1 / 128) : ℝ) : EReal)
  | _ => none
-- ==== ReferenceIdeal.lean ====
abbrev S4096x256 : Shape := ⟨2, ![4096, 256]⟩
abbrev S256x256 : Shape := ⟨2, ![256, 256]⟩
abbrev S4 : Shape := ⟨1, ![4]⟩
abbrev S2 : Shape := ⟨1, ![2]⟩
abbrev S128x128 : Shape := ⟨2, ![128, 128]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S4096x128x1 : Shape := ⟨3, ![4096, 128, 1]⟩
abbrev S1x1x4 : Shape := ⟨3, ![1, 1, 4]⟩
abbrev S4096x128x4 : Shape := ⟨3, ![4096, 128, 4]⟩
abbrev S1 : Shape := ⟨1, ![1]⟩
abbrev S1x1x1 : Shape := ⟨3, ![1, 1, 1]⟩
abbrev S1x1x2 : Shape := ⟨3, ![1, 1, 2]⟩
abbrev S4096x128x2 : Shape := ⟨3, ![4096, 128, 2]⟩
abbrev S128x4096 : Shape := ⟨2, ![128, 4096]⟩
abbrev S4096x4096 : Shape := ⟨2, ![4096, 4096]⟩
abbrev S1x4096 : Shape := ⟨2, ![1, 4096]⟩

abbrev nBuf : Space → Nat
  | .hbm => 203
  | .vmem => 0
  | .smem => 0
  | _ => 0

abbrev hbmTy0_0 (i : Nat) : BufTy := match i % 128 with
  | 0 => ⟨S4096x256, .f32⟩
  | 1 => ⟨S4096x256, .f32⟩
  | 2 => ⟨S256x256, .f32⟩
  | 3 => ⟨S4, .f32⟩
  | 4 => ⟨S2, .f32⟩
  | 5 => ⟨S128x128, .f32⟩
  | 6 => ⟨S128x128, .f32⟩
  | 7 => ⟨S4096x256, .f32⟩
  | 8 => ⟨S_, .f32⟩
  | 9 => ⟨S4096, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x256, .f32⟩
  | 16 => ⟨S4096x256, .f32⟩
  | 17 => ⟨S256x256, .f32⟩
  | 18 => ⟨S4096x256, .f32⟩
  | 19 => ⟨S4096x128, .f32⟩
  | 20 => ⟨S4096x128, .f32⟩
  | 21 => ⟨S4096x128x1, .f32⟩
  | 22 => ⟨S1x1x4, .f32⟩
  | 23 => ⟨S4096x128x4, .f32⟩
  | 24 => ⟨S4096x128x4, .f32⟩
  | 25 => ⟨S4096x128x4, .f32⟩
  | 26 => ⟨S4096x128x4, .f32⟩
  | 27 => ⟨S4096x128x4, .i32⟩
  | 28 => ⟨S_, .f32⟩
  | 29 => ⟨S_, .i32⟩
  | 30 => ⟨S4096x128, .f32⟩
  | 31 => ⟨S4096x128, .i32⟩
  | 32 => ⟨S_, .i32⟩
  | 33 => ⟨S4096x128, .i32⟩
  | 34 => ⟨S4096x128, .i1⟩
  | 35 => ⟨S_, .i32⟩
  | 36 => ⟨S4096x128, .i32⟩
  | 37 => ⟨S4096x128, .i32⟩
  | 38 => ⟨S4096x128, .i32⟩
  | 39 => ⟨S4096x128x1, .i32⟩
  | 40 => ⟨S1, .i32⟩
  | 41 => ⟨S_, .i32⟩
  | 42 => ⟨S4096x128x1, .i32⟩
  | 43 => ⟨S4096x128x1, .i1⟩
  | 44 => ⟨S1x1x1, .i32⟩
  | 45 => ⟨S4096x128x1, .i32⟩
  | 46 => ⟨S4096x128x1, .i1⟩
  | 47 => ⟨S4096x128x1, .i1⟩
  | 48 => ⟨S_, .i1⟩
  | 49 => ⟨S4096x128, .i1⟩
  | 50 => ⟨S4096x128, .f32⟩
  | 51 => ⟨S_, .f32⟩
  | 52 => ⟨S4096x128, .f32⟩
  | 53 => ⟨S4096x128, .f32⟩
  | 54 => ⟨S4096x128, .f32⟩
  | 55 => ⟨S4096x128, .f32⟩
  | 56 => ⟨S_, .f32⟩
  | 57 => ⟨S4096, .f32⟩
  | 58 => ⟨S4096, .f32⟩
  | 59 => ⟨S128x128, .f32⟩
  | 60 => ⟨S4096x128, .f32⟩
  | 61 => ⟨S_, .f32⟩
  | 62 => ⟨S4096x128, .f32⟩
  | 63 => ⟨S4096x128, .i1⟩
  | 64 => ⟨S_, .f32⟩
  | 65 => ⟨S_, .f32⟩
  | 66 => ⟨S4096x128, .f32⟩
  | 67 => ⟨S4096x128, .f32⟩
  | 68 => ⟨S4096x128, .f32⟩
  | 69 => ⟨S4096x128x1, .f32⟩
  | 70 => ⟨S1x1x2, .f32⟩
  | 71 => ⟨S4096x128x2, .f32⟩
  | 72 => ⟨S4096x128x2, .f32⟩
  | 73 => ⟨S4096x128x2, .f32⟩
  | 74 => ⟨S4096x128x2, .f32⟩
  | 75 => ⟨S4096x128x2, .i32⟩
  | 76 => ⟨S_, .f32⟩
  | 77 => ⟨S_, .i32⟩
  | 78 => ⟨S4096x128, .f32⟩
  | 79 => ⟨S4096x128, .i32⟩
  | 80 => ⟨S_, .i32⟩
  | 81 => ⟨S4096x128, .i32⟩
  | 82 => ⟨S4096x128, .i1⟩
  | 83 => ⟨S_, .i32⟩
  | 84 => ⟨S4096x128, .i32⟩
  | 85 => ⟨S4096x128, .i32⟩
  | 86 => ⟨S4096x128, .i32⟩
  | 87 => ⟨S4096x128x1, .i32⟩
  | 88 => ⟨S1, .i32⟩
  | 89 => ⟨S_, .i32⟩
  | 90 => ⟨S4096x128x1, .i32⟩
  | 91 => ⟨S4096x128x1, .i1⟩
  | 92 => ⟨S1x1x1, .i32⟩
  | 93 => ⟨S4096x128x1, .i32⟩
  | 94 => ⟨S4096x128x1, .i1⟩
  | 95 => ⟨S4096x128x1, .i1⟩
  | 96 => ⟨S_, .i1⟩
  | 97 => ⟨S4096x128, .i1⟩
  | 98 => ⟨S4096x128, .f32⟩
  | 99 => ⟨S_, .f32⟩
  | 100 => ⟨S4096x128, .f32⟩
  | 101 => ⟨S4096x128, .f32⟩
  | 102 => ⟨S4096x128, .f32⟩
  | 103 => ⟨S4096x128, .f32⟩
  | 104 => ⟨S_, .f32⟩
  | 105 => ⟨S4096, .f32⟩
  | 106 => ⟨S4096, .f32⟩
  | 107 => ⟨S128x128, .f32⟩
  | 108 => ⟨S4096x128, .f32⟩
  | 109 => ⟨S_, .f32⟩
  | 110 => ⟨S4096x128, .f32⟩
  | 111 => ⟨S4096x128, .i1⟩
  | 112 => ⟨S_, .f32⟩
  | 113 => ⟨S_, .f32⟩
  | 114 => ⟨S4096x128, .f32⟩
  | 115 => ⟨S4096x128, .f32⟩
  | 116 => ⟨S4096x128, .f32⟩
  | 117 => ⟨S256x256, .f32⟩
  | 118 => ⟨S4096x256, .f32⟩
  | 119 => ⟨S4096x128, .f32⟩
  | 120 => ⟨S4096x128, .f32⟩
  | 121 => ⟨S_, .i32⟩
  | 122 => ⟨S4096x128, .i32⟩
  | 123 => ⟨S4096x128, .i1⟩
  | 124 => ⟨S_, .i32⟩
  | 125 => ⟨S4096x128, .i32⟩
  | 126 => ⟨S4096x128, .i32⟩
  | 127 => ⟨S4096x128, .i32⟩
  | _ => ⟨S4096x256, .f32⟩

abbrev hbmTy0_1 (i : Nat) : BufTy := match i % 128 with
  | 0 => ⟨S4096x128x1, .i32⟩
  | 1 => ⟨S1, .i32⟩
  | 2 => ⟨S_, .i32⟩
  | 3 => ⟨S4096x128x1, .i32⟩
  | 4 => ⟨S4096x128x1, .i1⟩
  | 5 => ⟨S1x1x1, .i32⟩
  | 6 => ⟨S4096x128x1, .i32⟩
  | 7 => ⟨S4096x128x1, .i1⟩
  | 8 => ⟨S4096x128x1, .i1⟩
  | 9 => ⟨S_, .i1⟩
  | 10 => ⟨S4096x128, .i1⟩
  | 11 => ⟨S4096x128, .f32⟩
  | 12 => ⟨S_, .f32⟩
  | 13 => ⟨S4096x128, .f32⟩
  | 14 => ⟨S4096x128, .f32⟩
  | 15 => ⟨S128x4096, .f32⟩
  | 16 => ⟨S4096x4096, .f32⟩
  | 17 => ⟨S128x128, .f32⟩
  | 18 => ⟨S4096x128, .f32⟩
  | 19 => ⟨S128x4096, .f32⟩
  | 20 => ⟨S4096x4096, .f32⟩
  | 21 => ⟨S_, .f32⟩
  | 22 => ⟨S_, .f32⟩
  | 23 => ⟨S_, .f32⟩
  | 24 => ⟨S_, .f32⟩
  | 25 => ⟨S_, .f32⟩
  | 26 => ⟨S4096x4096, .f32⟩
  | 27 => ⟨S4096x4096, .f32⟩
  | 28 => ⟨S1x4096, .f32⟩
  | 29 => ⟨S4096x4096, .f32⟩
  | 30 => ⟨S4096x4096, .f32⟩
  | 31 => ⟨S4096x4096, .f32⟩
  | 32 => ⟨S_, .i32⟩
  | 33 => ⟨S4096x128, .i32⟩
  | 34 => ⟨S4096x128, .i1⟩
  | 35 => ⟨S_, .i32⟩
  | 36 => ⟨S4096x128, .i32⟩
  | 37 => ⟨S4096x128, .i32⟩
  | 38 => ⟨S4096x128, .i32⟩
  | 39 => ⟨S4096x128x1, .i32⟩
  | 40 => ⟨S1, .i32⟩
  | 41 => ⟨S_, .i32⟩
  | 42 => ⟨S4096x128x1, .i32⟩
  | 43 => ⟨S4096x128x1, .i1⟩
  | 44 => ⟨S1x1x1, .i32⟩
  | 45 => ⟨S4096x128x1, .i32⟩
  | 46 => ⟨S4096x128x1, .i1⟩
  | 47 => ⟨S4096x128x1, .i1⟩
  | 48 => ⟨S_, .i1⟩
  | 49 => ⟨S4096x128, .i1⟩
  | 50 => ⟨S4096x128, .f32⟩
  | 51 => ⟨S_, .f32⟩
  | 52 => ⟨S4096x128, .f32⟩
  | 53 => ⟨S4096x128, .f32⟩
  | 54 => ⟨S128x4096, .f32⟩
  | 55 => ⟨S4096x4096, .f32⟩
  | 56 => ⟨S128x128, .f32⟩
  | 57 => ⟨S4096x128, .f32⟩
  | 58 => ⟨S128x4096, .f32⟩
  | 59 => ⟨S4096x4096, .f32⟩
  | 60 => ⟨S_, .f32⟩
  | 61 => ⟨S_, .f32⟩
  | 62 => ⟨S_, .f32⟩
  | 63 => ⟨S_, .f32⟩
  | 64 => ⟨S_, .f32⟩
  | 65 => ⟨S4096x4096, .f32⟩
  | 66 => ⟨S4096x4096, .f32⟩
  | 67 => ⟨S1x4096, .f32⟩
  | 68 => ⟨S4096x4096, .f32⟩
  | 69 => ⟨S4096x4096, .f32⟩
  | 70 => ⟨S4096x4096, .f32⟩
  | 71 => ⟨S4096x4096, .f32⟩
  | 72 => ⟨S1x4096, .f32⟩
  | 73 => ⟨S4096x4096, .f32⟩
  | 74 => ⟨S4096x4096, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_cst : Ref sig .tc := ⟨.hbm, 28, rfl⟩
abbrev main_call1_c : Ref sig .tc := ⟨.hbm, 29, rfl⟩
abbrev main_call1_v1_0 : Ref sig .tc := ⟨.hbm, 30, rfl⟩
abbrev main_v16 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v17 : Ref sig .tc := ⟨.hbm, 53, rfl⟩
abbrev main_v18 : Ref sig .tc := ⟨.hbm, 54, rfl⟩
abbrev main_call3_v0 : Ref sig .tc := ⟨.hbm, 55, rfl⟩
abbrev main_call3_cst : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_0 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_cst_2 : Ref sig .tc := ⟨.hbm, 65, rfl⟩
abbrev main_call4_v0 : Ref sig .tc := ⟨.hbm, 66, rfl⟩
abbrev main_call4_v1 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_call5_v0 : Ref sig .tc := ⟨.hbm, 75, rfl⟩
abbrev main_call5_cst : Ref sig .tc := ⟨.hbm, 76, rfl⟩
abbrev main_call5_c : Ref sig .tc := ⟨.hbm, 77, rfl⟩
abbrev main_call5_v1_0 : Ref sig .tc := ⟨.hbm, 78, rfl⟩
abbrev main_v31 : Ref sig .tc := ⟨.hbm, 79, rfl⟩
abbrev main_call6_c : Ref sig .tc := ⟨.hbm, 80, rfl⟩
abbrev main_call6_v0 : Ref sig .tc := ⟨.hbm, 81, rfl⟩
abbrev main_call6_v1 : Ref sig .tc := ⟨.hbm, 82, rfl⟩
abbrev main_call6_c_0 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_c_1 : Ref sig .tc := ⟨.hbm, 88, rfl⟩
abbrev main_call6_c_2 : Ref sig .tc := ⟨.hbm, 89, rfl⟩
abbrev main_call6_v6 : Ref sig .tc := ⟨.hbm, 90, rfl⟩
abbrev main_call6_v7 : Ref sig .tc := ⟨.hbm, 91, rfl⟩
abbrev main_call6_v8 : Ref sig .tc := ⟨.hbm, 92, rfl⟩
abbrev main_call6_v9 : Ref sig .tc := ⟨.hbm, 93, rfl⟩
abbrev main_call6_v10 : Ref sig .tc := ⟨.hbm, 94, rfl⟩
abbrev main_call6_v11 : Ref sig .tc := ⟨.hbm, 95, rfl⟩
abbrev main_call6_c_3 : Ref sig .tc := ⟨.hbm, 96, rfl⟩
abbrev main_call6_v12 : Ref sig .tc := ⟨.hbm, 97, rfl⟩
abbrev main_call6_v13 : Ref sig .tc := ⟨.hbm, 98, rfl⟩
abbrev main_call6_cst : Ref sig .tc := ⟨.hbm, 99, rfl⟩
abbrev main_call6_v14 : Ref sig .tc := ⟨.hbm, 100, rfl⟩
abbrev main_v32 : Ref sig .tc := ⟨.hbm, 101, rfl⟩
abbrev main_v33 : Ref sig .tc := ⟨.hbm, 102, rfl⟩
abbrev main_call7_v0 : Ref sig .tc := ⟨.hbm, 103, rfl⟩
abbrev main_call7_cst : Ref sig .tc := ⟨.hbm, 104, rfl⟩
abbrev main_call7_v1 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_cst_3 : Ref sig .tc := ⟨.hbm, 109, rfl⟩
abbrev main_v37 : Ref sig .tc := ⟨.hbm, 110, rfl⟩
abbrev main_v38 : Ref sig .tc := ⟨.hbm, 111, rfl⟩
abbrev main_cst_4 : Ref sig .tc := ⟨.hbm, 112, rfl⟩
abbrev main_cst_5 : Ref sig .tc := ⟨.hbm, 113, rfl⟩
abbrev main_call8_v0 : Ref sig .tc := ⟨.hbm, 114, rfl⟩
abbrev main_call8_v1 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_call9_c : Ref sig .tc := ⟨.hbm, 121, rfl⟩
abbrev main_call9_v0 : Ref sig .tc := ⟨.hbm, 122, rfl⟩
abbrev main_call9_v1 : Ref sig .tc := ⟨.hbm, 123, rfl⟩
abbrev main_call9_c_0 : Ref sig .tc := ⟨.hbm, 124, rfl⟩
abbrev main_call9_v2 : Ref sig .tc := ⟨.hbm, 125, rfl⟩
abbrev main_call9_v3 : Ref sig .tc := ⟨.hbm, 126, rfl⟩
abbrev main_call9_v4 : Ref sig .tc := ⟨.hbm, 127, rfl⟩
abbrev main_call9_v5 : Ref sig .tc := ⟨.hbm, 128, rfl⟩
abbrev main_call9_c_1 : Ref sig .tc := ⟨.hbm, 129, rfl⟩
abbrev main_call9_c_2 : Ref sig .tc := ⟨.hbm, 130, rfl⟩
abbrev main_call9_v6 : Ref sig .tc := ⟨.hbm, 131, rfl⟩
abbrev main_call9_v7 : Ref sig .tc := ⟨.hbm, 132, rfl⟩
abbrev main_call9_v8 : Ref sig .tc := ⟨.hbm, 133, rfl⟩
abbrev main_call9_v9 : Ref sig .tc := ⟨.hbm, 134, rfl⟩
abbrev main_call9_v10 : Ref sig .tc := ⟨.hbm, 135, rfl⟩
abbrev main_call9_v11 : Ref sig .tc := ⟨.hbm, 136, rfl⟩
abbrev main_call9_c_3 : Ref sig .tc := ⟨.hbm, 137, rfl⟩
abbrev main_call9_v12 : Ref sig .tc := ⟨.hbm, 138, rfl⟩
abbrev main_call9_v13 : Ref sig .tc := ⟨.hbm, 139, rfl⟩
abbrev main_call9_cst : Ref sig .tc := ⟨.hbm, 140, rfl⟩
abbrev main_call9_v14 : Ref sig .tc := ⟨.hbm, 141, rfl⟩
abbrev main_v44 : Ref sig .tc := ⟨.hbm, 142, rfl⟩
abbrev main_v45 : Ref sig .tc := ⟨.hbm, 143, rfl⟩
abbrev main_v46 : Ref sig .tc := ⟨.hbm, 144, rfl⟩
abbrev main_v47 : Ref sig .tc := ⟨.hbm, 145, rfl⟩
abbrev main_v48 : Ref sig .tc := ⟨.hbm, 146, rfl⟩
abbrev main_v49 : Ref sig .tc := ⟨.hbm, 147, rfl⟩
abbrev main_v50 : Ref sig .tc := ⟨.hbm, 148, rfl⟩
abbrev main_cst_6 : Ref sig .tc := ⟨.hbm, 149, rfl⟩
abbrev main_v51 : Ref sig .tc := ⟨.hbm, 150, rfl⟩
abbrev main_cst_7 : Ref sig .tc := ⟨.hbm, 151, rfl⟩
abbrev main_v52 : Ref sig .tc := ⟨.hbm, 152, rfl⟩
abbrev main_v53 : Ref sig .tc := ⟨.hbm, 153, rfl⟩
abbrev main_v54 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_call10_c : Ref sig .tc := ⟨.hbm, 160, rfl⟩
abbrev main_call10_v0 : Ref sig .tc := ⟨.hbm, 161, rfl⟩
abbrev main_call10_v1 : Ref sig .tc := ⟨.hbm, 162, rfl⟩
abbrev main_call10_c_0 : Ref sig .tc := ⟨.hbm, 163, rfl⟩
abbrev main_call10_v2 : Ref sig .tc := ⟨.hbm, 164, rfl⟩
abbrev main_call10_v3 : Ref sig .tc := ⟨.hbm, 165, rfl⟩
abbrev main_call10_v4 : Ref sig .tc := ⟨.hbm, 166, rfl⟩
abbrev main_call10_v5 : Ref sig .tc := ⟨.hbm, 167, rfl⟩
abbrev main_call10_c_1 : Ref sig .tc := ⟨.hbm, 168, rfl⟩
abbrev main_call10_c_2 : Ref sig .tc := ⟨.hbm, 169, rfl⟩
abbrev main_call10_v6 : Ref sig .tc := ⟨.hbm, 170, rfl⟩
abbrev main_call10_v7 : Ref sig .tc := ⟨.hbm, 171, rfl⟩
abbrev main_call10_v8 : Ref sig .tc := ⟨.hbm, 172, rfl⟩
abbrev main_call10_v9 : Ref sig .tc := ⟨.hbm, 173, rfl⟩
abbrev main_call10_v10 : Ref sig .tc := ⟨.hbm, 174, rfl⟩
abbrev main_call10_v11 : Ref sig .tc := ⟨.hbm, 175, rfl⟩
abbrev main_call10_c_3 : Ref sig .tc := ⟨.hbm, 176, rfl⟩
abbrev main_call10_v12 : Ref sig .tc := ⟨.hbm, 177, rfl⟩
abbrev main_call10_v13 : Ref sig .tc := ⟨.hbm, 178, rfl⟩
abbrev main_call10_cst : Ref sig .tc := ⟨.hbm, 179, rfl⟩
abbrev main_call10_v14 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_cst_8 : Ref sig .tc := ⟨.hbm, 188, rfl⟩
abbrev main_v67 : Ref sig .tc := ⟨.hbm, 189, rfl⟩
abbrev main_cst_9 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_v72 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩

abbrev nD : Nat := 1
abbrev τ : Topo := Topo.v7x

variable {F : FTy → Type} [FloatOps F]
-- ==== Proof.Kit.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The region and its windows -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 is an input: at every point its buffer holds its block. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 is an input: at every point its buffer holds its block. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 is an input: at every point its buffer holds its block. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 is an input: at every point its buffer holds its block. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 is an input: at every point its buffer holds its block. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 is an input: at every point its buffer holds its block. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 is an input: at every point its buffer holds its block. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From the run of the whole pipeline: the argument arrays end as they were launched. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 4 rfl).trans ((hA c 4).trans (V_main_arg2 m c)),
      (Pipeline.RDat.FramePost.arr_in h c 0 rfl).trans ((hA c 0).trans (V_main_arg3 m c)),
      (Pipeline.RDat.FramePost.arr_in h c 1 rfl).trans ((hA c 1).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .smem S4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x512 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x256 .bf16 := Memref.whole cc0_scratch0
abbrev scM0_1 : Memref sig .tc .vmem S4096x256 .bf16 := Memref.whole cc0_scratch1
abbrev scM0_2 : Memref sig .tc .vmem S4096x256 .f32 := Memref.whole cc0_scratch2
/-- The operands left in HBM that the body copies into scratch itself, whole. -/
abbrev hbM0_0 : Memref sig .tc .hbm S4096x256 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 10] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 10) 0) ∗ iprop(hbPt0 c hbM0_0 (V m c main_arg0))) := by
  rw [Pipeline.ΦD_eq, scopedRest0_eq, ownSems00_eq, hbmPts0_eq]; simp only [scM0_0, scM0_1, scM0_2, owns_whole]; try rfl

end Cert.KernelIdeal.Hand

end
-- ==== Proof.Block.lean ====
module

public import proofs.«01_k».proof.Proof.Kit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## One block of decoded keys -/

/-- The block of 512 decoded keys which the kernel computes from the four high centroids `c0 … c3`, the two low ones
    `l0`, `l1`, a block `k` of keys, the upper and lower rows of the rotation and the two sketches. -/
def chunk (c0 c1 c2 c3 l0 l1 : F .f32) (k : Vec F S512x256 .f32) (PH PL : Vec F S128x256 .f32)
    (Sh Sl : Vec F S128x128 .f32) : FVec F S512x256 .bf16 :=
  k0_pay1 (k0_pay22 (k0_pay20 (k0_pay14 k) (k0_pay16 k PH) (k0_pay17 c0 c1) (k0_pay18 c1 c2) (k0_pay19 k PH c2 c3)
    c3 c2 c1 c0 Sh Sh) (k0_pay21 PH)) (k0_pay23 (k0_pay15 k) PL l0 l1 l1 l0 Sl Sl) (k0_pay24 (k0_pay14 k)) PL

/-- The first point computes its block by the same operations in the same order. -/
theorem first_chunk_eq (c0 c1 c2 c3 l0 l1 : F .f32) (k : Vec F S512x256 .f32) (PH PL : Vec F S128x256 .f32)
    (Sh Sl : Vec F S128x128 .f32) :
    k0_pay12 (k0_pay3 k) (k0_pay9 (k0_pay3 k) (k0_pay5 k PH) (k0_pay6 c1 c2) (k0_pay7 k PH c2 c3 c3 c2)
      (k0_pay8 k PH c0 c1 c1 c0) Sh Sh PH) (k0_pay10 (k0_pay4 k) PL) (k0_pay11 l0 l1) l1 l0 Sl Sl PL
      = chunk c0 c1 c2 c3 l0 l1 k PH PL Sh Sl := rfl

/-- Entry `n` of a vector held in scalar memory, as a scalar load reads it. -/
abbrev at4 (x : Vec F S4 .f32) (n : ℕ) (h : ∀ a, (![n] : Fin 1 → ℕ) a + S1.size a ≤ S4.size a) : F .f32 :=
  View.ld (Val := Elt F) x (Rect.unit (s := S4) ![n] S1.size h) (Shape.Idx.first (s := S1) (by decide))
abbrev at2 (x : Vec F S2 .f32) (n : ℕ) (h : ∀ a, (![n] : Fin 1 → ℕ) a + S1.size a ≤ S2.size a) : F .f32 :=
  View.ld (Val := Elt F) x (Rect.unit (s := S2) ![n] S1.size h) (Shape.Idx.first (s := S1) (by decide))

/-- The same block from the operands as the windows hold them. -/
def blockOf (x0 : Vec F S4 .f32) (x1 : Vec F S2 .f32) (k : Vec F S512x256 .f32) (x4 : Vec F S256x256 .f32)
    (x5 x6 : Vec F S128x128 .f32) : FVec F S512x256 .bf16 :=
  chunk (at4 x0 0 inb_S4_S1_0) (at4 x0 1 inb_S4_S1_1) (at4 x0 2 inb_S4_S1_2) (at4 x0 3 inb_S4_S1_3)
    (at2 x1 0 inb_S2_S1_0) (at2 x1 1 inb_S2_S1_1) k
    (View.ld (Val := Elt F) x4 (Rect.unit (s := S256x256) ![0, 0] S128x256.size inb_S256x256_S128x256_0_0))
    (View.ld (Val := Elt F) x4 (Rect.unit (s := S256x256) ![128, 0] S128x256.size inb_S256x256_S128x256_128_0)) x5 x6

theorem zero2 : (![0, 0] : Fin 2 → ℕ) = fun _ => 0 := by decide

/-- The half of the ring that the point at `i` reads, and the half that it fills. -/
abbrev readHalf (d : Vec F S1024x256 .bf16) (i : grid0.Coords) : Vec F S512x256 .bf16 :=
  View.ld (Val := Elt F) d (Rect.unit (s := S1024x256) (k0_off1 i) S512x256.size (k0_off1_inb i))
abbrev fillHalf (d : Vec F S1024x256 .bf16) (i : grid0.Coords) : Vec F S512x256 .bf16 :=
  View.ld (Val := Elt F) d (Rect.unit (s := S1024x256) (k0_off2 i) S512x256.size (k0_off2_inb i))

section Stored
variable {κ : Kind} {sp : Space} {S : Shape} {e : EltTy} {Val : EltTy → Type}

/-- Reading back the rectangle stored last gives what was stored. -/
theorem ld_stored (v : View sig κ sp S e) (f : v.ty.Contents Val) (off size : Fin S.rank → ℕ) (inb)
    (w : (Rect.unit off size inb).shape.Idx → Val e) (L : List (View.Piece Val S e)) :
    View.ld (v.read Val (v.writes Val f (⟨Rect.unit off size inb, w⟩ :: L))) (Rect.unit off size inb) = w :=
  funext fun y => View.read_writes_cons_emb v f _ w L y

/-- The same where the offsets of the load are only known to be those of the store. -/
theorem ld_stored_of_eq (v : View sig κ sp S e) (f : v.ty.Contents Val) (off off' size : Fin S.rank → ℕ) (h : off' = off) (inb) (inb')
    (w : (Rect.unit off size inb).shape.Idx → Val e) (L : List (View.Piece Val S e)) :
    View.ld (v.read Val (v.writes Val f (⟨Rect.unit off size inb, w⟩ :: L))) (Rect.unit off' size inb') = w := by
  subst h; exact ld_stored v f off' size inb w L

end Stored

/-- At the first point the body reads the first half. -/
theorem off1_first : ∀ i : grid0.Coords, cond0_0 i → k0_off1 i = ![0, 0] := by
  intro i h
  rw [k0_off1_eq]
  revert i; decide +kernel

end Cert.KernelIdeal.Hand

end
-- ==== Proof.RunA.lean ====
module

public import proofs.«01_k».proof.Proof.Block
public import Idealize.ShloMosaic.Lib.VecWindow
public import Idealize.ShloMosaic.Lib.Pipeline.ValueKit.Basic
public import Idealize.ShloMosaic.Lib.Tactic.Stretches

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first point: from any scratch it leaves the queries, rounded, in their buffer, the block of the keys
    fetched next in the half it fills, and in the output the product of the queries with the first block of keys. -/
theorem first_run (c : Dev nD) (i : grid0.Coords) (arg1 : Memref sig .tc .smem S4 .f32) (harg1 : arg1.IsWhole) (arg2 : Memref sig .tc .smem S2 .f32) (harg2 : arg2.IsWhole) (arg4 : Memref sig .tc .vmem S512x256 .f32) (harg4 : arg4.IsWhole) (arg5 : Memref sig .tc .vmem S512x256 .f32) (harg5 : arg5.IsWhole) (arg6 : Memref sig .tc .vmem S256x256 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S4096x512 .f32) (harg9 : arg9.IsWhole) (arg10 : Memref sig .tc .vmem S1024x256 .bf16) (harg10 : arg10.IsWhole) (arg11 : Memref sig .tc .vmem S4096x256 .bf16) (harg11 : arg11.IsWhole) (arg12 : Memref sig .tc .vmem S4096x256 .f32) (harg12 : arg12.IsWhole) (hc0 : cond0_0 i)
    (x0 : Vec F S4 .f32) (x1 : Vec F S2 .f32) (x2 : Vec F S512x256 .f32) (x3 : Vec F S512x256 .f32) (x4 : Vec F S256x256 .f32) (x5 : Vec F S128x128 .f32) (x6 : Vec F S128x128 .f32) (x7 : Vec F S4096x256 .f32) (fh0 : HbBuf0 (F := F) c hbM0_0) (hx7 : View.read (Elt F) hbM0_0.view fh0 = x7) :
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ semVal ((c : Thread nD τ), SemLoc.dma 10) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (blockOf x0 x1 x3 x4 x5 x6) (k0_pay13 x7)) ∗ (∃ d, ⌜fillHalf d i = blockOf x0 x1 x2 x4 x5 x6⌝ ∗ owns (c : Thread nD τ) arg10 fullShare d) ∗ owns (c : Thread nD τ) arg11 fullShare (k0_pay13 x7) ∗ (∃ d, owns (c : Thread nD τ) arg12 fullShare d) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 (Memref.whole main_arg0) (Memref.isWhole_whole _) arg4 harg4 arg5 harg5 arg6 harg6 arg7 harg7 arg8 harg8 arg9 harg9 arg10 harg10 arg11 harg11 arg12 harg12 cc0_scratch3) K := by
    intro W K
    simp only [cc0__body_eq_skeleton]; unfold cc0__body_skel
    simp only [k0_part4_eq_skeleton, k0_part1_eq_skeleton, k0_part2_eq_skeleton, k0_part3_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, Hq0, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [View.read_writes_full]; sl_open_run
      refine congrArg₂ k0_pay2 ?_ ?_
      · simp (disch := decide) only [View.readCov, View.readAt_eq_ld, Memref.IsWhole.read_unread, View.ld_unit_lit, View.read_writes_full, View.read_writes_whole, ReadAs.same]
        refine (ld_stored_of_eq (S := S1024x256) _ _ ![0, 0] (k0_off1 i) _ (off1_first i hc0) _ _ _ _).trans ?_
        unfold blockOf; rw [← first_chunk_eq]; sl_open_pay; rfl
      · simp (disch := decide) only [View.readCov, View.readAt_eq_ld, Memref.IsWhole.read_unread, View.ld_unit_lit, View.read_writes_full, View.read_writes_whole, ReadAs.same]
        rw [View.read_writes_full, ← hx7]
    isplitl [HS0]
    · iexists _; isplitr; swap; iexists _; isplitr; swap; · iexact HS0
      · ipureintro; rfl
      · ipureintro
        refine (ld_stored _ _ _ _ _ _ _).trans ?_; sl_open_run
        simp (disch := decide) only [View.readCov, View.readAt_eq_ld, Memref.IsWhole.read_unread, View.ld_unit_lit, View.read_writes_full, View.read_writes_whole, ReadAs.same]
        unfold blockOf chunk; sl_open_pay; rfl
    isplitl [HS1]
    · iexists _; isplitr; swap; · iexact HS1
      ipureintro
      sl_open_run; rw [View.read_writes_full]
      simp (disch := decide) only [View.readCov, View.readAt_eq_ld, Memref.IsWhole.read_unread, View.ld_unit_lit, View.read_writes_full, View.read_writes_whole, ReadAs.same]
      rw [← hx7]
    isplitl [HS2]
    · iexists _, _; isplitr; swap; · iexact HS2
      ipureintro; rfl
    isplitl [Hq0]; · iexact Hq0
    isplitl [Hh0]; · iexact Hh0
    iexists _; iexact HW

end Cert.KernelIdeal.Hand

end
-- ==== Proof.RunB.lean ====
module

public import proofs.«01_k».proof.Proof.RunA
public import Idealize.ShloMosaic.Lib.VecWindow
public import Idealize.ShloMosaic.Lib.Pipeline.ValueKit.Basic
public import Idealize.ShloMosaic.Lib.Tactic.Stretches

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at a later point: it multiplies the queries with the half it reads and fills the other half with the block
    of the keys fetched next. -/
theorem later_run (c : Dev nD) (i : grid0.Coords) (arg1 : Memref sig .tc .smem S4 .f32) (harg1 : arg1.IsWhole) (arg2 : Memref sig .tc .smem S2 .f32) (harg2 : arg2.IsWhole) (arg4 : Memref sig .tc .vmem S512x256 .f32) (harg4 : arg4.IsWhole) (arg5 : Memref sig .tc .vmem S512x256 .f32) (harg5 : arg5.IsWhole) (arg6 : Memref sig .tc .vmem S256x256 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S4096x512 .f32) (harg9 : arg9.IsWhole) (arg10 : Memref sig .tc .vmem S1024x256 .bf16) (harg10 : arg10.IsWhole) (arg11 : Memref sig .tc .vmem S4096x256 .bf16) (harg11 : arg11.IsWhole) (arg12 : Memref sig .tc .vmem S4096x256 .f32) (harg12 : arg12.IsWhole) (hc0 : ¬cond0_0 i)
    (x0 : Vec F S4 .f32) (x1 : Vec F S2 .f32) (x2 : Vec F S512x256 .f32) (x3 : Vec F S512x256 .f32) (x4 : Vec F S256x256 .f32) (x5 : Vec F S128x128 .f32) (x6 : Vec F S128x128 .f32) (p : Vec F S1024x256 .bf16) (q : Vec F S4096x256 .bf16) (fh0 : HbBuf0 (F := F) c hbM0_0) :
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare p ∗ owns (c : Thread nD τ) arg11 fullShare q ∗ (∃ d, owns (c : Thread nD τ) arg12 fullShare d) ∗ semVal ((c : Thread nD τ), SemLoc.dma 10) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (readHalf p i) q) ∗ (∃ d, ⌜fillHalf d i = blockOf x0 x1 x2 x4 x5 x6⌝ ∗ owns (c : Thread nD τ) arg10 fullShare d) ∗ owns (c : Thread nD τ) arg11 fullShare q ∗ (∃ d, owns (c : Thread nD τ) arg12 fullShare d) ∗ semVal ((c : Thread nD τ), SemLoc.dma 10) 0 ∗ hbPt0 c hbM0_0 fh0 ∗ (∃ W', owes (c : Thread nD τ) 0 W')) -∗ K ⟨⟩))
          ⊢ wp frame (wpE (defs₀ (F := F)) Variants.none c none) Set.univ (cc0__body i arg1 harg1 arg2 harg2 (Memref.whole main_arg0) (Memref.isWhole_whole _) arg4 harg4 arg5 harg5 arg6 harg6 arg7 harg7 arg8 harg8 arg9 harg9 arg10 harg10 arg11 harg11 arg12 harg12 cc0_scratch3) K := by
    intro W K
    simp only [cc0__body_eq_skeleton]; unfold cc0__body_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%ds2, %fs2, -, HS2⟩, Hq0, Hh0, HW, Hk⟩
    obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      rw [View.read_writes_full]; sl_open_run
      simp (disch := decide) only [View.readCov, View.readAt_eq_ld, Memref.IsWhole.read_unread, View.ld_unit_lit, View.read_writes_full, View.read_writes_whole, ReadAs.same]
    isplitl [HS0]
    · iexists _; isplitr; swap; iexists _; isplitr; swap; · iexact HS0
      · ipureintro; rfl
      · ipureintro
        refine (ld_stored _ _ _ _ _ _ _).trans ?_; sl_open_run
        simp (disch := decide) only [View.readCov, View.readAt_eq_ld, Memref.IsWhole.read_unread, View.ld_unit_lit, View.read_writes_full, View.read_writes_whole, ReadAs.same]
        unfold blockOf chunk; sl_open_pay; rfl
    isplitl [HS1]
    · iexists _; isplitr; swap; · iexact HS1
      ipureintro
      exact harg11.read_unread _
    isplitl [HS2]
    · iexists _, _; isplitr; swap; · iexact HS2
      ipureintro; rfl
    isplitl [Hq0]; · iexact Hq0
    isplitl [Hh0]; · iexact Hh0
    iexists _; iexact HW

end Cert.KernelIdeal.Hand

end
-- ==== Proof.Launch.lean ====
module

public import proofs.«01_k».proof.Proof.RunB
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the scratch holds between points -/

/-- The queries, rounded, as the kernel keeps them. -/
def queries (c : Dev nD) : Vec F S4096x256 .bf16 := k0_pay13 (View.read (Elt F) hbM0_0.view (V m c main_arg0))

/-- The decoded block computed at point `t` for the point after it. -/
def nextBlock (c : Dev nD) (t : Fin cfg0.N) : FVec F S512x256 .bf16 :=
  blockOf (iblk m c 0 t) (iblk m c 1 t) (iblk m c 2 t) (iblk m c 4 t) (iblk m c 5 t) (iblk m c 6 t)

/-- The decoded block which point `t` multiplies by: its own first block at the first point, otherwise the block which
    the point before computed. -/
def held (c : Dev nD) (t : Fin cfg0.N) : FVec F S512x256 .bf16 :=
  if t.val = 0 then blockOf (iblk m c 0 t) (iblk m c 1 t) (iblk m c 3 t) (iblk m c 4 t) (iblk m c 5 t) (iblk m c 6 t)
  else nextBlock m c ⟨t.val - 1, Nat.lt_of_le_of_lt (Nat.sub_le _ _) t.isLt⟩

/-- What the ring must hold before point `n`: in the half that the point reads, the block it multiplies by. -/
def RingHas (c : Dev nD) (n : ℕ) (d : Vec F S1024x256 .bf16) : Prop :=
  ∀ h : n < cfg0.N, readHalf d (grid0.coords ⟨n, h⟩) = held m c ⟨n, h⟩

/-- The invariant after at least one point. -/
def kept (c : Dev nD) (n : ℕ) : sProp 𝕄 :=
  iprop(iprop((∃ d, ⌜RingHas m c n d⌝ ∗ owns (c : Thread nD τ) scM0_0 fullShare d) ∗ owns (c : Thread nD τ) scM0_1 fullShare (queries m c) ∗ (∃ d, owns (c : Thread nD τ) scM0_2 fullShare d)) ∗ (∃ r, prngReg c r) ∗ iprop(semVal ((c : Thread nD τ), SemLoc.dma 10) 0) ∗ iprop(hbPt0 c hbM0_0 (V m c main_arg0)))

/-- Two loads at the same offsets read the same. -/
theorem ld_off {S : Shape} {e : EltTy} {Val : EltTy → Type} (X : S.Idx → Val e) (off off' size : Fin S.rank → ℕ) (h : off = off') (inb) (inb') :
    View.ld X (Rect.unit off size inb) = View.ld X (Rect.unit off' size inb') := by
  subst h; rfl

/-- Each point reads the half which the point before filled. -/
theorem off_next (t : Fin cfg0.N) (h : t.val + 1 < cfg0.N) :
    k0_off1 (grid0.coords ⟨t.val + 1, h⟩) = k0_off2 (grid0.coords t) := by
  have hN : t.val + 1 < 8 := lt_of_lt_of_eq h N_0
  have e0 : (grid0.coords t 0).val = t.val / 1 % 8 := Pipeline.Grid.coords_val t 0 (by decide) rfl
  have e1 : (grid0.coords ⟨t.val + 1, h⟩ 0).val = (t.val + 1) / 1 % 8 := Pipeline.Grid.coords_val ⟨t.val + 1, h⟩ 0 (by decide) rfl
  rw [k0_off1_eq, k0_off2_eq, e0, e1]
  congr 1
  omega

/-- So filling the half at a point makes the ring hold what the next point reads. -/
theorem ringHas_succ (c : Dev nD) (t : Fin cfg0.N) (d : Vec F S1024x256 .bf16)
    (hd : fillHalf d (grid0.coords t) = nextBlock m c t) : RingHas m c (t.val + 1) d := fun h => by
  rw [readHalf, ld_off (S := S1024x256) d _ _ S512x256.size (off_next t h) _ (k0_off2_inb _)]
  rw [held, if_neg (Nat.succ_ne_zero t.val)]
  exact hd

/-! ## The pipeline's proof data -/

/-- The pipeline's proof data: the arrays as launched, each input left in place, the output of point `t` the product of
    the queries with the block held, the invariant that of the ring. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (held m c t) (queries m c)
  Φ n := if n.val = 0 then Pipeline.ΦD osem0 spec0 H0 (V m) c else kept m c n.val
  q w := Pipeline.shareOf spec0 w
  owed _ := 0

/-- The proof data's arrays are the region-entry contents: by projection. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay2 (held m c t) (queries m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The invariant before the first point, and after each point. -/
theorem Phi_zero (c : Dev nD) (n : Fin (cfg0.N + 1)) (h : n.val = 0) : (dats m 0 c).Φ n = Pipeline.ΦD osem0 spec0 H0 (V m) c := if_pos h
theorem Phi_pos (c : Dev nD) (n : Fin (cfg0.N + 1)) (h : n.val ≠ 0) : (dats m 0 c).Φ n = kept m c n.val := if_neg h

/-- What is kept entails the plain invariant: the contents forgotten. -/
theorem kept_forget (c : Dev nD) (n : ℕ) : kept m c n ⊢ Pipeline.ΦD osem0 spec0 H0 (V m) c := by
  rw [PhiD0_eq]
  unfold kept
  iintro ⟨⟨⟨%d, -, HS0⟩, HS1, HS2⟩, Hg, Hq0, Hh0⟩
  isplitl [HS0 HS1 HS2]
  · isplitl [HS0]; · iexists _; iexact HS0
    isplitl [HS1]; · iexists _; iexact HS1
    iexact HS2
  isplitl [Hg]; · iexact Hg
  isplitl [Hq0]; · iexact Hq0
  iexact Hh0

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point takes the invariant to the next one and leaves the stated product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [Phi_pos m c t.succ (Nat.succ_ne_zero _),
    after0_0, after0_1, after0_2, after0_3, after0_4, after0_5, after0_6, after0_7]
  unfold kept
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases h0 : t.val % 8 = 0
  · have ht0 : t.val = 0 := by omega
    rw [Phi_zero m c t.castSucc ht0, PhiD0_eq, held, if_pos ht0]
    iintro ⟨⟨⟨HS0, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply ((first_run c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (View.read (Elt F) hbM0_0.view (V m c main_arg0)) (V m c main_arg0) rfl) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, ⟨%e, %he, HS0⟩, HS1, HS2, Hq0, Hh0, ⟨%W', HW'⟩⟩
    isplitl [HS0 HS1 HS2 Hg Hq0 Hh0]
    · isplitl [HS0 HS1 HS2]
      · isplitl [HS0]
        · iexists e; isplitr; · ipureintro; exact ringHas_succ m c t e he
          iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have ht0 : t.val ≠ 0 := by omega
    rw [Phi_pos m c t.castSucc ht0]
    unfold kept
    iintro ⟨⟨⟨⟨%p, %hp, HS0⟩, HS1, HS2⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    have hp' : readHalf p (grid0.coords t) = held m c t := hp t.isLt
    rw [← hp']
    iapply ((later_run c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) p (queries m c) (V m c main_arg0)) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, ⟨%e, %he, HS0⟩, HS1, HS2, Hq0, Hh0, ⟨%W', HW'⟩⟩
    isplitl [HS0 HS1 HS2 Hg Hq0 Hh0]
    · isplitl [HS0 HS1 HS2]
      · isplitl [HS0]
        · iexists e; isplitr; · ipureintro; exact ringHas_succ m c t e he
          iexact HS0
        isplitl [HS1]; · iexact HS1
        iexact HS2
      isplitl [Hg]
      · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array ends as the proof data say, with every semaphore counter at zero. -/
theorem run_main_quiescent : θ_run defs (onTc (τ := τ) (main (F := F))) (s₀ m ρ) (fun r => (Pipeline.RDat.FramePost (cfgs 0) (fun c => (dats m 0 c).toRForget (fun _ => false)) (V m)) r ∧ r.2.sem = fun _ => 0) :=
  Pipeline.θ_run_frame_dma_forget_shared (Q' := _) cfgs (dats m) (0 : Fin 1) launch₀0 osem0 defs₀ Variants.none (fun _ => false) ownSemFacts0 H0 H0_sub m ρ main
    (hbody := fun c => (body_obligation m c).loose) (hq := fun _ _ _ => rfl)
    (howed := fun _ _ => rfl) (V := V m) (hmain := hmain m Variants.none) (hA := A_eq m) (hin := fun c => by rw [Phi_zero m c 0 rfl]) (hout := fun c => by rw [Phi_pos m c (Fin.last _) (by decide)]; exact kept_forget m c _)

end Cert.KernelIdeal.Hand

end
-- ==== Proof.Run.lean ====
module

public import proofs.«01_k».proof.Proof.Launch

@[expose] public section

set_option maxRecDepth 16384

noncomputable section

namespace Cert.KernelIdeal.Hand

open Cert.KernelIdeal.Gen
open Idealize.ShloMosaic Idealize.ShloMosaic.TcCoe Idealize.SL.Sem

/-! ## What the run of the whole pipeline leaves -/

section
variable {F : FTy → Type} [FloatOps F] [Named F] (m : (ℓ : Loc nD τ sig) → Buf (Elt F) ℓ) (ρ : Dev nD → PrngReg)

/-- The run: the result array after the last point, the arguments unchanged, the semaphores at rest. -/
theorem run : θ_run defs (onTc (τ := τ) (main (F := F))) ⟨m, fun _ => 0, ρ⟩ (fun r => (∀ c : Dev nD,
      r.2.mem ((c : Thread nD τ).loc main_v0) = (dats m 0 c).arrAt 7 cfg0.N) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have h := run_main_quiescent (F := F) m ρ
  have hf := frame_of m ρ (fun c => (dats m 0 c).toRForget (fun _ => false)) (fun c w => A_eq m c w)
    ((θ_run defs _ _).mono (fun _ h => h.1) h)
  refine (θ_run defs _ _).mono ?_ (θ_run_and h hf)
  intro r hr
  refine ⟨fun c => ?_, hr.2, hr.1.2⟩
  exact (Pipeline.RDat.FramePost.toDat cfgs (dats m) 0 (V m) r hr.1.1 c).1 7

end

end Cert.KernelIdeal.Hand

end
-- ==== Proof.Words.lean ====
module

public import proofs.«01_k».proof.Defs
public import proofs.«01_k».proof.Proof.Gen.Kernel
public import proofs.«01_k».proof.Proof.Gen.Kernel.Launch
public import proofs.«01_k».proof.Proof.Run

@[expose] public section

set_option maxRecDepth 16384

noncomputable section

namespace Cert.Kernel.Hand

open Idealize.ShloMosaic Idealize.ShloMosaic.TcCoe Idealize.SL.Sem

/-! ## The kernel over words is its idealization with the named constant read as its word

The two programs differ in that constant alone, so the run proved of the one is the run of the other. -/

/-- Over words, a named constant is read as its word. -/
@[reducible] def asWord : Named Bits := ⟨fun _ _ {φ} w => Scalar.ofBits φ w⟩

/-- The bodies agree. -/
theorem body_eq : Cert.Kernel.cc0__body (F := Bits) = (letI := asWord; Cert.KernelIdeal.cc0__body (F := Bits)) := rfl

/-- The tables of bodies agree. -/
theorem defs₀_eq : Cert.Kernel.defs₀ (F := Bits) = (letI := asWord; Cert.KernelIdeal.defs₀ (F := Bits)) := by
  funext p l a
  cases p
  · match l, a with
    | ⟨0, _⟩, (t, s) => rfl
    | ⟨_ + 1, h⟩, _ => exact absurd h (Nat.not_lt.2 (Nat.le_add_left _ _))
  · rfl
  · rfl

/-- The tables with the pipeline's labels agree. -/
theorem defs_eq : Cert.Kernel.defs (F := Bits) = (letI := asWord; Cert.KernelIdeal.defs (F := Bits)) :=
  congrArg (Pipeline.defs (Cert.KernelIdeal.pcfgs (F := Bits))) defs₀_eq

/-- The entry functions agree. -/
theorem main_eq : Cert.Kernel.main (F := Bits) = (letI := asWord; Cert.KernelIdeal.main (F := Bits)) := rfl

/-- The kernel's frame: it runs, its arguments end unchanged, its semaphores end at zero. -/
theorem frame : Cert.quiescent_Kernel := fun m g _ => by
  letI := asWord
  have h := (θ_run _ _ _).mono (fun _ h => h.2) (Cert.KernelIdeal.Hand.run (F := Bits) m g)
  rw [defs_eq]
  exact h

end Cert.Kernel.Hand

end
-- ==== Proof.Real.lean ====
module

public import Idealize.ShloMosaic.PureOps.Ideal

@[expose] public section

noncomputable section

namespace Cert.Math

open Idealize.ShloMosaic

/-! ## The float constants both programs spell, as real numbers -/

/-- The small number added to a key's norm before dividing by it. -/
def eps : ℝ := 11258999 * (2 : ℝ) ^ (-50 : ℤ)

/-- The constant 1e-8 of both programs denotes the real `eps`. -/
theorem ofBits_eps : Ideal.ofBits .f32 0x322BCC77#32 = ((eps : ℝ) : EReal) := by
  simp [Ideal.ofBits, Ideal.ieee, eps, -EReal.coe_mul]

/-- The constant 0.5 denotes one half. -/
theorem ofBits_half : Ideal.ofBits .f32 0x3F000000#32 = ((1 / 2 : ℝ) : EReal) := by
  simp [Ideal.ofBits, Ideal.ieee, -EReal.coe_mul]; norm_num

/-- The constant -1.0 denotes minus one. -/
theorem ofBits_neg_one : Ideal.ofBits .f32 0xBF800000#32 = ((-1 : ℝ) : EReal) := by
  simp [Ideal.ofBits, Ideal.ieee, -EReal.coe_mul]; norm_num

/-- The constant 1.0 denotes one. -/
theorem ofBits_one : Ideal.ofBits .f32 0x3F800000#32 = ((1 : ℝ) : EReal) := by
  simp [Ideal.ofBits, Ideal.ieee, -EReal.coe_mul]; norm_num

/-- The constant 0.0 denotes zero. -/
theorem ofBits_zero : Ideal.ofBits .f32 0x00000000#32 = ((0 : ℝ) : EReal) := by
  simp [Ideal.ofBits, Ideal.ieee, -EReal.coe_mul]

/-- The constant 128.0 denotes 128. -/
theorem ofBits_128 : Ideal.ofBits .f32 0x43000000#32 = ((128 : ℝ) : EReal) := by
  simp [Ideal.ofBits, Ideal.ieee, -EReal.coe_mul]; norm_num

/-- The constant of which the reference takes the root. -/
theorem ofBits_half_pi : Ideal.ofBits .f32 0x3FC90FDB#32 = ((13176795 / 8388608 : ℝ) : EReal) := by
  simp [Ideal.ofBits, Ideal.ieee, -EReal.coe_mul]; norm_num

/-- The constant infinity denotes the top of the extended reals. -/
theorem ofBits_inf : Ideal.ofBits .f32 0x7F800000#32 = (⊤ : EReal) := by
  simp [Ideal.ofBits, Ideal.ieee, -EReal.coe_mul]

/-! ## Real numbers among the extended reals -/

theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

theorem coe_ite (p : Prop) [Decidable p] (a b : ℝ) :
    (if p then ((a : ℝ) : EReal) else ((b : ℝ) : EReal)) = ((if p then a else b : ℝ) : EReal) := by
  split <;> rfl

/-- The root of a sum of squares is the real root. -/
theorem sqrt_squares {n : ℕ} (f : Fin n → ℝ) :
    Ideal.sqrt ((∑ i, f i * f i : ℝ) : EReal) = ((Real.sqrt (∑ i, f i * f i) : ℝ) : EReal) := by
  rw [Ideal.sqrt_coe, if_neg (not_lt.mpr (Finset.sum_nonneg fun i _ => mul_self_nonneg (f i)))]

theorem zero_le_coe (x : ℝ) : ((0 : EReal) ≤ (x : EReal)) ↔ 0 ≤ x := EReal.coe_nonneg

theorem one_coe : (1 : EReal) = ((1 : ℝ) : EReal) := rfl

/-- A quotient by a real number other than zero. -/
theorem div_real {y : ℝ} (h : y ≠ 0) (x : ℝ) : Ideal.div ((x : ℝ) : EReal) (y : EReal) = ((x * (1 / y) : ℝ) : EReal) := by
  rw [Ideal.div_coe h, EReal.coe_mul]

theorem eps_pos : 0 < eps := by unfold eps; positivity

/-! ## The scheme over the reals -/

/-- The factor of the correction term. -/
def scale : ℝ := Real.sqrt (13176795 / 8388608) * (1 / 128)

/-- The length of a vector. -/
def len {n : ℕ} (x : Fin n → ℝ) : ℝ := Real.sqrt (∑ a, x a * x a)

theorem norm_add_eps_ne {n : ℕ} (x : Fin n → ℝ) : len x + eps ≠ 0 :=
  (add_pos_of_nonneg_of_pos (Real.sqrt_nonneg _) eps_pos).ne'

/-- A key divided by its length (kept off zero). -/
def unit (k : Fin 256 → ℝ) (a : Fin 256) : ℝ := k a * (1 / (len k + eps))

/-- The rows of a 256x256 rotation that hold the first 128 coordinates, and the others. -/
def hi (P : Fin 256 → Fin 256 → ℝ) (i : Fin 128) : Fin 256 → ℝ := P ⟨i.val, by omega⟩
def lo (P : Fin 256 → Fin 256 → ℝ) (i : Fin 128) : Fin 256 → ℝ := P ⟨128 + i.val, by omega⟩

/-- The coordinates of `x` in the frame of the rows of `P`. -/
def turn {n : ℕ} (P : Fin n → Fin 256 → ℝ) (x : Fin 256 → ℝ) (i : Fin n) : ℝ := ∑ a, x a * P i a

/-- The centroid of four which the thresholds halfway between neighbours choose. -/
def pick4 (c : Fin 4 → ℝ) (y : ℝ) : ℝ :=
  if (c 1 + c 2) * (1 / 2) < y then (if (c 2 + c 3) * (1 / 2) < y then c 3 else c 2)
  else (if (c 0 + c 1) * (1 / 2) < y then c 1 else c 0)

/-- The centroid of two which the threshold halfway between them chooses. -/
def pick2 (c : Fin 2 → ℝ) (y : ℝ) : ℝ := if (c 0 + c 1) * (1 / 2) < y then c 1 else c 0

/-- The sign as the two programs take it: zero counts as positive. -/
def sgn (x : ℝ) : ℝ := if 0 ≤ x then 1 else -1

/-- The signs of the sketch of `r`. -/
def bits (S : Fin 128 → Fin 128 → ℝ) (r : Fin 128 → ℝ) (n : Fin 128) : ℝ := sgn (∑ c, r c * S n c)

/-- What is left of `y` after its centroid. -/
def rest (f : ℝ → ℝ) (y : Fin 128 → ℝ) (c : Fin 128) : ℝ := y c - f (y c)

/-- The decoded coordinates of a vector `y`: its centroids and the sketched correction. -/
def decode (f : ℝ → ℝ) (S : Fin 128 → Fin 128 → ℝ) (y : Fin 128 → ℝ) (c : Fin 128) : ℝ :=
  f (y c) + (scale * len (rest f y)) * ∑ n, bits S (rest f y) n * S n c

/-- A decoded key, as the kernel computes it: turned back into the original frame. -/
def decoded (f g : ℝ → ℝ) (P : Fin 256 → Fin 256 → ℝ) (S T : Fin 128 → Fin 128 → ℝ) (k : Fin 256 → ℝ) (d : Fin 256) : ℝ :=
  (∑ c, (len k * decode f S (turn (hi P) (unit k)) c) * hi P c d)
    + ∑ c, (len k * decode g T (turn (lo P) (unit k)) c) * lo P c d

/-- The product of a turned query `z` with the two parts of a decoded vector, as the reference computes it. -/
def dotParts (f : ℝ → ℝ) (S : Fin 128 → Fin 128 → ℝ) (y z : Fin 128 → ℝ) : ℝ :=
  (∑ c, z c * f (y c)) + ((∑ n, (∑ c, z c * S n c) * bits S (rest f y) n) * scale) * len (rest f y)

/-- One entry of the result, as the reference computes it. -/
def entry (f g : ℝ → ℝ) (P : Fin 256 → Fin 256 → ℝ) (S T : Fin 128 → Fin 128 → ℝ) (q k : Fin 256 → ℝ) : ℝ :=
  (dotParts f S (turn (hi P) (unit k)) (turn (hi P) q) + dotParts g T (turn (lo P) (unit k)) (turn (lo P) q)) * len k

/-- The product of a turned query with decoded coordinates is the sum of its two parts. -/
theorem sum_decode (f : ℝ → ℝ) (S : Fin 128 → Fin 128 → ℝ) (y z : Fin 128 → ℝ) :
    ∑ c, z c * decode f S y c = dotParts f S y z := by
  unfold decode dotParts
  simp only [mul_add, Finset.sum_add_distrib]
  congr 1
  have h : ∀ n, (∑ c, z c * S n c) * bits S (rest f y) n = ∑ c, z c * S n c * bits S (rest f y) n :=
    fun n => Finset.sum_mul ..
  simp only [h]
  rw [Finset.sum_comm, Finset.sum_mul, Finset.sum_mul]
  refine Finset.sum_congr rfl fun c _ => ?_
  simp only [Finset.mul_sum, Finset.sum_mul]
  exact Finset.sum_congr rfl fun n _ => by ring

/-- Turning the decoded coordinates back and taking the product with the query is the same as turning the query. -/
theorem sum_back (w : ℝ) (P : Fin 128 → Fin 256 → ℝ) (q : Fin 256 → ℝ) (e : Fin 128 → ℝ) :
    ∑ d, q d * ∑ c, (w * e c) * P c d = (∑ c, turn P q c * e c) * w := by
  unfold turn
  simp only [Finset.mul_sum, Finset.sum_mul]
  rw [Finset.sum_comm]
  exact Finset.sum_congr rfl fun c _ => Finset.sum_congr rfl fun d _ => by ring

/-- The equation: the product of a query with the decoded key is the reference's entry. -/
theorem dot_decoded (f g : ℝ → ℝ) (P : Fin 256 → Fin 256 → ℝ) (S T : Fin 128 → Fin 128 → ℝ) (q k : Fin 256 → ℝ) :
    ∑ d, q d * decoded f g P S T k d = entry f g P S T q k := by
  unfold decoded entry
  simp only [mul_add, Finset.sum_add_distrib, sum_back, sum_decode, add_mul]

end Cert.Math

end
-- ==== Proof.Row.lean ====
module

public import proofs.«01_k».proof.Proof.Block
public import proofs.«01_k».proof.Proof.Real
public import Idealize.ShloMosaic.Lib.Pointwise
public import Idealize.ShloMosaic.PureOps.IdealRules

@[expose] public section

set_option maxRecDepth 16384
set_option maxHeartbeats 1600000

noncomputable section

namespace Cert.KernelIdeal.Hand

open Cert.KernelIdeal.Gen Cert.Math
open Idealize.ShloMosaic Idealize.ShloMosaic.TcCoe Idealize.SL.Sem

/-! ## One block of decoded keys, read entry by entry over real operands -/

variable {k : Vec Ideal S512x256 .f32} {K : Fin 512 → Fin 256 → ℝ}

/-- The kernel's named constant denotes the factor of the correction term. -/
theorem named_scale : Named.named (F := Ideal) κ "qjl_scale" (φ := .f32) 0x3C206C99#32 = ((scale : ℝ) : EReal) :=
  IdealRules.named_const.ideal_named_scalar _ _ _ _ rfl

/-- The lengths of the keys. -/
theorem norm_at (hk : ∀ r a, k (ix2 r a) = ((K r a : ℝ) : EReal)) (r : Fin 512) :
    k0_pay14 (F := Ideal) k (ix2 r 0) = ((len (K r) : ℝ) : EReal) := by
  pointwise [k0_pay14]
  simp only [hk, ← EReal.coe_mul, coe_sum, sqrt_squares]
  rfl

/-- The keys divided by their lengths. -/
theorem unit_at (hk : ∀ r a, k (ix2 r a) = ((K r a : ℝ) : EReal)) (r : Fin 512) (a : Fin 256) :
    k0_pay15 (F := Ideal) k (ix2 r a) = ((unit (K r) a : ℝ) : EReal) := by
  pointwise [k0_pay15]
  rw [norm_at hk, hk, ofBits_eps, ← EReal.coe_add, div_real (norm_add_eps_ne _)]
  rfl

/-- The coordinates of the divided keys in a turned frame. -/
theorem turn_at (hk : ∀ r a, k (ix2 r a) = ((K r a : ℝ) : EReal)) {P : Vec Ideal S128x256 .f32} {p : Fin 128 → Fin 256 → ℝ}
    (hP : ∀ c a, P (ix2 c a) = ((p c a : ℝ) : EReal)) (r : Fin 512) (c : Fin 128) :
    k0_pay16 (F := Ideal) k P (ix2 r c) = ((turn p (unit (K r)) c : ℝ) : EReal) := by
  pointwise [k0_pay16]
  simp only [unit_at hk, hP, ← EReal.coe_mul, coe_sum]
  rfl

/-- The upper half of the decoded coordinates, times the lengths. -/
theorem upper_at {n : FVec Ideal S512x1 .f32} {N : Fin 512 → ℝ} (hn : ∀ r, n (ix2 r 0) = ((N r : ℝ) : EReal))
    {y : FVec Ideal S512x128 .f32} {Y : Fin 512 → Fin 128 → ℝ} (hy : ∀ r c, y (ix2 r c) = ((Y r c : ℝ) : EReal))
    {S : Vec Ideal S128x128 .f32} {T : Fin 128 → Fin 128 → ℝ} (hS : ∀ i c, S (ix2 i c) = ((T i c : ℝ) : EReal))
    (C : Fin 4 → ℝ) {b : IVec S512x128 1}
    (hb : ∀ r c, b (ix2 r c) = BitVec.ofBool (decide ((((C 2 + C 3) * (1 / 2) : ℝ) : EReal) < y (ix2 r c))))
    (r : Fin 512) (c : Fin 128) :
    k0_pay20 (F := Ideal) n y (((C 0 + C 1) * (1 / 2) : ℝ) : EReal) (((C 1 + C 2) * (1 / 2) : ℝ) : EReal) b
      ((C 3 : ℝ) : EReal) ((C 2 : ℝ) : EReal) ((C 1 : ℝ) : EReal) ((C 0 : ℝ) : EReal) S S (ix2 r c)
      = ((N r * decode (pick4 C) T (Y r) c : ℝ) : EReal) := by
  pointwise [k0_pay20, hb]
  simp only [hn, hy, hS, named_scale, ofBits_neg_one, one_coe, EReal.coe_lt_coe_iff, coe_ite, ← EReal.coe_sub,
    ← EReal.coe_mul, ← EReal.coe_add, coe_sum, sqrt_squares, zero_le_coe]
  rfl

/-- The lower half of the decoded coordinates. -/
theorem lower_at {u : FVec Ideal S512x256 .f32} {U : Fin 512 → Fin 256 → ℝ} (hu : ∀ r a, u (ix2 r a) = ((U r a : ℝ) : EReal))
    {P : Vec Ideal S128x256 .f32} {p : Fin 128 → Fin 256 → ℝ} (hP : ∀ c a, P (ix2 c a) = ((p c a : ℝ) : EReal))
    {S : Vec Ideal S128x128 .f32} {T : Fin 128 → Fin 128 → ℝ} (hS : ∀ i c, S (ix2 i c) = ((T i c : ℝ) : EReal))
    (C : Fin 2 → ℝ) (r : Fin 512) (c : Fin 128) :
    k0_pay23 (F := Ideal) u P ((C 0 : ℝ) : EReal) ((C 1 : ℝ) : EReal) ((C 1 : ℝ) : EReal) ((C 0 : ℝ) : EReal) S S (ix2 r c)
      = ((decode (pick2 C) T (turn p (U r)) c : ℝ) : EReal) := by
  pointwise [k0_pay23]
  simp only [hu, hP, hS, named_scale, ofBits_half, ofBits_neg_one, one_coe, EReal.coe_lt_coe_iff, coe_ite, ← EReal.coe_sub,
    ← EReal.coe_mul, ← EReal.coe_add, coe_sum, sqrt_squares, zero_le_coe]
  rfl

/-- A whole decoded block, from real operands. -/
theorem chunk_at (hk : ∀ r a, k (ix2 r a) = ((K r a : ℝ) : EReal))
    {PH PL : Vec Ideal S128x256 .f32} {P : Fin 256 → Fin 256 → ℝ}
    (hPH : ∀ c a, PH (ix2 c a) = ((hi P c a : ℝ) : EReal)) (hPL : ∀ c a, PL (ix2 c a) = ((lo P c a : ℝ) : EReal))
    {Sh Sl : Vec Ideal S128x128 .f32} {S T : Fin 128 → Fin 128 → ℝ}
    (hS : ∀ i c, Sh (ix2 i c) = ((S i c : ℝ) : EReal)) (hT : ∀ i c, Sl (ix2 i c) = ((T i c : ℝ) : EReal))
    (C : Fin 4 → ℝ) (D : Fin 2 → ℝ) (r : Fin 512) (d : Fin 256) :
    chunk (F := Ideal) ((C 0 : ℝ) : EReal) ((C 1 : ℝ) : EReal) ((C 2 : ℝ) : EReal) ((C 3 : ℝ) : EReal)
      ((D 0 : ℝ) : EReal) ((D 1 : ℝ) : EReal) k PH PL Sh Sl (ix2 r d)
      = ((decoded (pick4 C) (pick2 D) P S T (K r) d : ℝ) : EReal) := by
  have mid (a b : ℝ) : k0_pay17 (F := Ideal) ((a : ℝ) : EReal) ((b : ℝ) : EReal) = (((a + b) * (1 / 2) : ℝ) : EReal) := by
    show ((a : EReal) + (b : EReal)) * Ideal.ofBits .f32 0x3F000000#32 = _
    rw [ofBits_half, EReal.coe_mul, EReal.coe_add]
  have mid' (a b : ℝ) : k0_pay18 (F := Ideal) ((a : ℝ) : EReal) ((b : ℝ) : EReal) = (((a + b) * (1 / 2) : ℝ) : EReal) := mid a b
  have hb : ∀ r c, k0_pay19 (F := Ideal) k PH ((C 2 : ℝ) : EReal) ((C 3 : ℝ) : EReal) (ix2 r c)
      = BitVec.ofBool (decide ((((C 2 + C 3) * (1 / 2) : ℝ) : EReal) < k0_pay16 (F := Ideal) k PH (ix2 r c))) := fun r c => by
    pointwise [k0_pay19]
    rw [ofBits_half, ← EReal.coe_add, ← EReal.coe_mul]
  have hup := upper_at (norm_at hk) (turn_at hk hPH) hS C hb
  have hlo := lower_at (unit_at hk) hPL hT D
  unfold chunk
  rw [mid, mid']
  pointwise [k0_pay1, k0_pay21, k0_pay22, k0_pay24]
  simp only [hup, hlo, norm_at hk, hPH, hPL, ← EReal.coe_mul, ← EReal.coe_add, coe_sum]
  rfl

/-- The product of the queries with a block of decoded keys. -/
theorem dot_at {q : Vec Ideal S4096x256 .bf16} {Q : Fin 4096 → Fin 256 → ℝ} (hq : ∀ i d, q (ix2 i d) = ((Q i d : ℝ) : EReal))
    {b : Vec Ideal S512x256 .bf16} {B : Fin 512 → Fin 256 → ℝ} (hb : ∀ r d, b (ix2 r d) = ((B r d : ℝ) : EReal))
    (i : Fin 4096) (r : Fin 512) :
    k0_pay2 (F := Ideal) b q (ix2 i r) = ((∑ d, Q i d * B r d : ℝ) : EReal) := by
  pointwise [k0_pay2]
  simp only [hq, hb, ← EReal.coe_mul, coe_sum]

end Cert.KernelIdeal.Hand

end
-- ==== Proof.KernelOut.lean ====
module

public import proofs.«01_k».proof.Proof.Launch
public import proofs.«01_k».proof.Proof.Row
public import Idealize.ShloMosaic.Lib.Pipeline.ValueKit

@[expose] public section

set_option maxRecDepth 16384
set_option maxHeartbeats 1600000

noncomputable section

namespace Cert.KernelIdeal.Hand

open Cert.KernelIdeal.Gen Cert.Math
open Idealize.ShloMosaic Idealize.ShloMosaic.TcCoe Idealize.SL.Sem

/-! ## The kernel's result, read entry by entry over real operands -/

/-- Every window's block index at every point. -/
theorem idx : ∀ t : Fin cfg0.N, win0_0.index t = ![0] ∧ win0_1.index t = ![0] ∧ win0_2.index t = ![min (t.val + 1) 7, 0]
    ∧ win0_3.index t = ![0, 0] ∧ win0_4.index t = ![0, 0] ∧ win0_5.index t = ![0, 0] ∧ win0_6.index t = ![0, 0]
    ∧ win0_7.index t = ![0, t.val] :=
  (by decide +kernel : ∀ t : Fin grid0.N, _)

theorem points : cfg0.N = 8 := by decide +kernel

/-- Row `r` of key block `b`. -/
def rowOf (b : ℕ) (hb : b < 8) (r : Fin 512) : Fin 4096 := ⟨b * 512 + r.val, by omega⟩

section
variable (m : (ℓ : Loc nD τ sig) → Buf (Elt Ideal) ℓ) (c : Dev nD)

/-- The four centroids, at any point. -/
theorem block0_at (t : Fin cfg0.N) (b : Fin 4) : (iblk m c 0 t : S4.Idx → EReal) (ix1 b) = m ((c : Thread nD τ).loc main_arg3) (ix1 b) := by
  blk_ext! [iblk, V, idx t]

/-- The two centroids, at any point. -/
theorem block1_at (t : Fin cfg0.N) (b : Fin 2) : (iblk m c 1 t : S2.Idx → EReal) (ix1 b) = m ((c : Thread nD τ).loc main_arg4) (ix1 b) := by
  blk_ext! [iblk, V, idx t]

/-- The keys of the point after a point. -/
theorem block2_at (t : Fin cfg0.N) (r : Fin 512) (a : Fin 256) : (iblk m c 2 t : S512x256.Idx → EReal) (ix2 r a)
    = m ((c : Thread nD τ).loc main_arg1) (ix2 (rowOf (min (t.val + 1) 7) (by omega) r) a) := by
  unfold rowOf
  blk_ext! [iblk, V, idx t]

/-- The keys of the first point. -/
theorem block3_at (t : Fin cfg0.N) (r : Fin 512) (a : Fin 256) : (iblk m c 3 t : S512x256.Idx → EReal) (ix2 r a)
    = m ((c : Thread nD τ).loc main_arg1) (ix2 (rowOf 0 (by omega) r) a) := by
  unfold rowOf
  blk_ext! [iblk, V, idx t]

/-- The rotation, at any point. -/
theorem block4_at (t : Fin cfg0.N) (r a : Fin 256) : (iblk m c 4 t : S256x256.Idx → EReal) (ix2 r a)
    = m ((c : Thread nD τ).loc main_arg2) (ix2 r a) := by
  blk_ext! [iblk, V, idx t]

/-- The upper sketch, at any point. -/
theorem block5_at (t : Fin cfg0.N) (r a : Fin 128) : (iblk m c 5 t : S128x128.Idx → EReal) (ix2 r a)
    = m ((c : Thread nD τ).loc main_arg5) (ix2 r a) := by
  blk_ext! [iblk, V, idx t]

/-- The lower sketch, at any point. -/
theorem block6_at (t : Fin cfg0.N) (r a : Fin 128) : (iblk m c 6 t : S128x128.Idx → EReal) (ix2 r a)
    = m ((c : Thread nD τ).loc main_arg6) (ix2 r a) := by
  blk_ext! [iblk, V, idx t]

end

/-- One of four centroids, loaded as a scalar. -/
theorem at4_at {x : Vec Ideal S4 .f32} {C : Fin 4 → ℝ} (hx : ∀ b, x (ix1 b) = ((C b : ℝ) : EReal)) (b : Fin 4) (h) :
    at4 (F := Ideal) x b.val h = ((C b : ℝ) : EReal) := by
  refine Eq.trans (congrArg x ?_) (hx b)
  funext a
  match a with
  | ⟨0, _⟩ => exact Fin.ext (Nat.add_zero _)

/-- One of two centroids, loaded as a scalar. -/
theorem at2_at {x : Vec Ideal S2 .f32} {D : Fin 2 → ℝ} (hx : ∀ b, x (ix1 b) = ((D b : ℝ) : EReal)) (b : Fin 2) (h) :
    at2 (F := Ideal) x b.val h = ((D b : ℝ) : EReal) := by
  refine Eq.trans (congrArg x ?_) (hx b)
  funext a
  match a with
  | ⟨0, _⟩ => exact Fin.ext (Nat.add_zero _)

/-- A block of decoded keys from the operands as the windows hold them. -/
theorem blockOf_at {x0 : Vec Ideal S4 .f32} {C : Fin 4 → ℝ} (h0 : ∀ b, x0 (ix1 b) = ((C b : ℝ) : EReal))
    {x1 : Vec Ideal S2 .f32} {D : Fin 2 → ℝ} (h1 : ∀ b, x1 (ix1 b) = ((D b : ℝ) : EReal))
    {k : Vec Ideal S512x256 .f32} {K : Fin 512 → Fin 256 → ℝ} (hk : ∀ r a, k (ix2 r a) = ((K r a : ℝ) : EReal))
    {x4 : Vec Ideal S256x256 .f32} {P : Fin 256 → Fin 256 → ℝ} (h4 : ∀ r a, x4 (ix2 r a) = ((P r a : ℝ) : EReal))
    {x5 x6 : Vec Ideal S128x128 .f32} {S T : Fin 128 → Fin 128 → ℝ}
    (h5 : ∀ i c, x5 (ix2 i c) = ((S i c : ℝ) : EReal)) (h6 : ∀ i c, x6 (ix2 i c) = ((T i c : ℝ) : EReal)) (r : Fin 512) (d : Fin 256) :
    blockOf (F := Ideal) x0 x1 k x4 x5 x6 (ix2 r d) = ((decoded (pick4 C) (pick2 D) P S T (K r) d : ℝ) : EReal) := by
  unfold blockOf
  rw [show at4 (F := Ideal) x0 0 inb_S4_S1_0 = _ from at4_at h0 0 _, show at4 (F := Ideal) x0 1 inb_S4_S1_1 = _ from at4_at h0 1 _,
    show at4 (F := Ideal) x0 2 inb_S4_S1_2 = _ from at4_at h0 2 _, show at4 (F := Ideal) x0 3 inb_S4_S1_3 = _ from at4_at h0 3 _,
    show at2 (F := Ideal) x1 0 inb_S2_S1_0 = _ from at2_at h1 0 _, show at2 (F := Ideal) x1 1 inb_S2_S1_1 = _ from at2_at h1 1 _]
  refine chunk_at hk (fun c a => ?_) (fun c a => ?_) h5 h6 C D r d
  · refine Eq.trans (congrArg x4 ?_) (h4 ⟨c.val, by omega⟩ a)
    funext b
    match b with
    | ⟨0, _⟩ => exact Fin.ext (show 0 + 1 * c.val = c.val by omega)
    | ⟨1, _⟩ => exact Fin.ext (show 0 + 1 * a.val = a.val by omega)
  · refine Eq.trans (congrArg x4 ?_) (h4 ⟨128 + c.val, by omega⟩ a)
    funext b
    match b with
    | ⟨0, _⟩ => exact Fin.ext (show 128 + 1 * c.val = 128 + c.val by omega)
    | ⟨1, _⟩ => exact Fin.ext (show 0 + 1 * a.val = a.val by omega)

section
variable {m : (ℓ : Loc nD τ sig) → Buf (Elt Ideal) ℓ} {c : Dev nD}
  {Q K : Fin 4096 → Fin 256 → ℝ} (hQ : ∀ r a, m ((c : Thread nD τ).loc main_arg0) (ix2 r a) = ((Q r a : ℝ) : EReal))
  (hK : ∀ r a, m ((c : Thread nD τ).loc main_arg1) (ix2 r a) = ((K r a : ℝ) : EReal))
  {P : Fin 256 → Fin 256 → ℝ} (hP : ∀ r a, m ((c : Thread nD τ).loc main_arg2) (ix2 r a) = ((P r a : ℝ) : EReal))
  {C : Fin 4 → ℝ} (hC : ∀ b, m ((c : Thread nD τ).loc main_arg3) (ix1 b) = ((C b : ℝ) : EReal))
  {D : Fin 2 → ℝ} (hD : ∀ b, m ((c : Thread nD τ).loc main_arg4) (ix1 b) = ((D b : ℝ) : EReal))
  {S T : Fin 128 → Fin 128 → ℝ} (hS : ∀ r a, m ((c : Thread nD τ).loc main_arg5) (ix2 r a) = ((S r a : ℝ) : EReal))
  (hT : ∀ r a, m ((c : Thread nD τ).loc main_arg6) (ix2 r a) = ((T r a : ℝ) : EReal))

/-- The result array over real operands. -/
def scores (Q K : Fin 4096 → Fin 256 → ℝ) (P : Fin 256 → Fin 256 → ℝ) (C : Fin 4 → ℝ) (D : Fin 2 → ℝ) (S T : Fin 128 → Fin 128 → ℝ) :
    S4096x4096.Idx → EReal :=
  fun x => ((entry (pick4 C) (pick2 D) P S T (Q (x 0)) (K (x 1)) : ℝ) : EReal)

include hQ in
/-- The queries as the kernel keeps them. -/
theorem queries_at (i : Fin 4096) (d : Fin 256) : queries (F := Ideal) m c (ix2 i d) = ((Q i d : ℝ) : EReal) := by
  unfold queries
  pointwise [k0_pay13]
  exact hQ i d

include hK hP hC hD hS hT in
/-- The decoded block which a point multiplies by is that of its own keys. -/
theorem held_at (t : Fin cfg0.N) (ht : t.val < 8) (r : Fin 512) (d : Fin 256) :
    held (F := Ideal) m c t (ix2 r d) = ((decoded (pick4 C) (pick2 D) P S T (K (rowOf t.val ht r)) d : ℝ) : EReal) := by
  unfold held
  split
  · rename_i h
    rw [blockOf_at (K := fun r => K (rowOf 0 (by omega) r)) (fun b => (block0_at m c t b).trans (hC b)) (fun b => (block1_at m c t b).trans (hD b))
      (fun r a => (block3_at m c t r a).trans (hK _ a)) (fun r a => (block4_at m c t r a).trans (hP r a))
      (fun r a => (block5_at m c t r a).trans (hS r a)) (fun r a => (block6_at m c t r a).trans (hT r a))]
    simp only [h]
  · rename_i h
    unfold nextBlock
    have e (r : Fin 512) : rowOf (min (t.val - 1 + 1) 7) (by omega) r = rowOf t.val ht r :=
      Fin.ext (show min (t.val - 1 + 1) 7 * 512 + r.val = t.val * 512 + r.val by rw [show min (t.val - 1 + 1) 7 = t.val by omega])
    rw [blockOf_at (K := fun r => K (rowOf t.val ht r)) (fun b => (block0_at m c _ b).trans (hC b)) (fun b => (block1_at m c _ b).trans (hD b))
      (fun r a => (block2_at m c _ r a).trans ((hK _ a).trans (by rw [← e r]))) (fun r a => (block4_at m c _ r a).trans (hP r a))
      (fun r a => (block5_at m c _ r a).trans (hS r a)) (fun r a => (block6_at m c _ r a).trans (hT r a))]

include hQ hK hP hC hD hS hT in
/-- What a point leaves in its block of the result. -/
theorem after_at (t : Fin cfg0.N) (ht : t.val < 8) (i : Fin 4096) (r : Fin 512) :
    ((dats m 0 c).after 7 t : S4096x512.Idx → EReal) (ix2 i r)
      = ((entry (pick4 C) (pick2 D) P S T (Q i) (K (rowOf t.val ht r)) : ℝ) : EReal) := by
  rw [after0_7, dot_at (queries_at hQ) (held_at hK hP hC hD hS hT t ht), dot_decoded]

include hQ hK hP hC hD hS hT in
/-- The whole result array after the last point. -/
theorem result_eq : (dats m 0 c).arrAt 7 cfg0.N = scores Q K P C D S T := by
  refine (dats m 0 c).arrAt_eq_of_covers 7 _ (by decide +kernel) fun t hf y => ?_
  have ht : t.val < 8 := lt_of_lt_of_eq t.isLt points
  blk_simp
  obtain ⟨i, r, rfl⟩ : ∃ (i : Fin 4096) (r : Fin 512), y = ix2 i r := ⟨y 0, y 1, by funext a; match a with | ⟨0, _⟩ => rfl | ⟨1, _⟩ => rfl⟩
  rw [after_at hQ hK hP hC hD hS hT t ht]
  have e0 : (((cfg0.win 7).blk t).view.emb (ix2 i r)) 0 = i := by
    apply Fin.ext
    blk_simp [idx t]
  have e1 : (((cfg0.win 7).blk t).view.emb (ix2 i r)) 1 = rowOf t.val ht r := by
    apply Fin.ext
    blk_simp [idx t]
    rfl
  unfold scores
  rw [e0, e1]

end

end Cert.KernelIdeal.Hand

end
-- ==== Proof.RefOps.lean ====
module

public import proofs.«01_k».proof.Proof.Gen.ReferenceIdeal
public import Idealize.ShloMosaic.Lib.StableHlo.Run
public import Idealize.ShloMosaic.Lib.Quiescent

@[expose] public section

set_option maxRecDepth 200000

noncomputable section

/-!
The reference program as one straight line of operations, in twelve windows.  Each call of a helper is written out at its
place.
-/

namespace Cert.ReferenceIdeal.Hand

open Cert.ReferenceIdeal.Gen
open Idealize.ShloMosaic Idealize.ShloMosaic.TcCoe Idealize.ShloMosaic.StableHlo Idealize.SL.Sem

variable {F : FTy → Type} [FloatOps F]

/-- Operations: norms of the keys, their unit vectors, the rotation and its two halves. -/
def keys : List (HloOp τ sig (Elt F)) :=
  [ StableHlo.binary main_arg1 main_arg1 main_call0_v0 mulf,
    StableHlo.nullary main_call0_cst (constant S_ .f32 0x00000000#32),
    StableHlo.binary main_call0_v0 main_call0_cst main_call0_v1 (fun x v => Host.reduceAdd x v reducesTo_S4096x256_S4096_d1 h_S_),
    StableHlo.unary main_call0_v1 main_v0 Host.sqrt,
    StableHlo.unary main_v0 main_v1 (broadcastInDim S4096x1 ![0] bcast_S4096_S4096x1_0 : (⟨S4096, .f32⟩ : BufTy).Contents (Elt F) → (⟨S4096x1, .f32⟩ : BufTy).Contents (Elt F)),
    StableHlo.nullary main_cst (constant S_ .f32 0x322BCC77#32),
    StableHlo.unary main_cst main_v2 (broadcastInDim S4096x1 ![] bcast_S_S4096x1 : (⟨S_, .f32⟩ : BufTy).Contents (Elt F) → (⟨S4096x1, .f32⟩ : BufTy).Contents (Elt F)),
    StableHlo.binary main_v1 main_v2 main_v3 (addf : (⟨S4096x1, .f32⟩ : BufTy).Contents (Elt F) → (⟨S4096x1, .f32⟩ : BufTy).Contents (Elt F) → (⟨S4096x1, .f32⟩ : BufTy).Contents (Elt F)),
    StableHlo.unary main_v3 main_v4 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v4 main_v5 (Host.divf : (⟨S4096x256, .f32⟩ : BufTy).Contents (Elt F) → (⟨S4096x256, .f32⟩ : BufTy).Contents (Elt F) → (⟨S4096x256, .f32⟩ : BufTy).Contents (Elt F)),
    StableHlo.unary main_arg2 main_v6 ((transpose S256x256 [1, 0] · transposes_S256x256_S256x256_1_0) : (⟨S256x256, .f32⟩ : BufTy).Contents (Elt F) → (⟨S256x256, .f32⟩ : BufTy).Contents (Elt F)),
    StableHlo.binary main_v5 main_v6 main_v7 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_v7 main_v8 ((extractStridedSlice S4096x128 ![0, 0] · slices_S4096x256_S4096x128_0_0) : (⟨S4096x256, .f32⟩ : BufTy).Contents (Elt F) → (⟨S4096x128, .f32⟩ : BufTy).Contents (Elt F)),
    StableHlo.unary main_v7 main_v9 ((extractStridedSlice S4096x128 ![0, 128] · slices_S4096x256_S4096x128_0_128) : (⟨S4096x256, .f32⟩ : BufTy).Contents (Elt F) → (⟨S4096x128, .f32⟩ : BufTy).Contents (Elt F)) ]

/-- They touch only buffers of the device. -/
theorem keys_sub : (keys (F := F)).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub ..⟩

/-- Operations: squared distances of the upper half to the four centroids, and the nearest one. -/
def highCode : List (HloOp τ sig (Elt F)) :=
  [ StableHlo.unary main_v8 main_v10 (broadcastInDim S4096x128x1 ![0, 1] bcast_S4096x128_S4096x128x1_0_1 : (⟨S4096x128, .f32⟩ : BufTy).Contents (Elt F) → (⟨S4096x128x1, .f32⟩ : BufTy).Contents (Elt F)),
    StableHlo.unary main_arg3 main_v11 (broadcastInDim S1x1x4 ![2] bcast_S4_S1x1x4_2 : (⟨S4, .f32⟩ : BufTy).Contents (Elt F) → (⟨S1x1x4, .f32⟩ : BufTy).Contents (Elt F)),
    StableHlo.unary main_v10 main_v12 (broadcastInDim S4096x128x4 ![0, 1, 2] bcast_S4096x128x1_S4096x128x4_0_1_2 : (⟨S4096x128x1, .f32⟩ : BufTy).Contents (Elt F) → (⟨S4096x128x4, .f32⟩ : BufTy).Contents (Elt F)),
    StableHlo.unary main_v11 main_v13 (broadcastInDim S4096x128x4 ![0, 1, 2] bcast_S1x1x4_S4096x128x4_0_1_2 : (⟨S1x1x4, .f32⟩ : BufTy).Contents (Elt F) → (⟨S4096x128x4, .f32⟩ : BufTy).Contents (Elt F)),
    StableHlo.binary main_v12 main_v13 main_v14 (subf : (⟨S4096x128x4, .f32⟩ : BufTy).Contents (Elt F) → (⟨S4096x128x4, .f32⟩ : BufTy).Contents (Elt F) → (⟨S4096x128x4, .f32⟩ : BufTy).Contents (Elt F)),
    StableHlo.binary main_v14 main_v14 main_v15 (mulf : (⟨S4096x128x4, .f32⟩ : BufTy).Contents (Elt F) → (⟨S4096x128x4, .f32⟩ : BufTy).Contents (Elt F) → (⟨S4096x128x4, .f32⟩ : BufTy).Contents (Elt F)),
    StableHlo.nullary main_call1_v0 (iotaInDim S4096x128x4 32 2),
    StableHlo.nullary main_call1_cst (constant S_ .f32 0x7F800000#32),
    StableHlo.nullary main_call1_c (constantI S_ 32 0#32),
    StableHlo.quaternary main_v15 main_call1_v0 main_call1_cst main_call1_c main_call1_v1_0 (fun x y u v j => (Host.argReduce reducer_argmin_f32_i32 x y u v reducesTo_S4096x128x4_S4096x128_d2 h_S_ j).1),
    StableHlo.quaternary main_v15 main_call1_v0 main_call1_cst main_call1_c main_v16 (fun x y u v j => (Host.argReduce reducer_argmin_f32_i32 x y u v reducesTo_S4096x128x4_S4096x128_d2 h_S_ j).2) ]

/-- They touch only buffers of the device. -/
theorem highCode_sub : (highCode (F := F)).Forall fun op => op.bufs ⊆ tcRefs τ sig :=
  ⟨unary_bufs_sub .., unary_bufs_sub .., unary_bufs_sub .., unary_bufs_sub .., binary_bufs_sub .., binary_bufs_sub .., nullary_bufs_sub .., nullary_bufs_sub .., nullary_bufs_sub .., quaternary_bufs_sub .., quaternary_bufs_sub ..⟩

/-- Operations: the upper half as its centroids. -/
def highEntry : List (HloOp τ sig (Elt F)) :=
  [ StableHlo.nullary main_call2_c (constantI S_ 32 0#32),
    StableHlo.unary main_call2_c main_call2_v0 (broadcastInDim S4096x128 ![] bcast_S_S4096x128),
    StableHlo.binary main_v16 main_call2_v0 main_call2_v1 (cmpi .slt),
    StableHlo.nullary main_call2_c_0 (constantI S_ 32 4#32),
    StableHlo.unary main_call2_c_0 main_call2_v2 (broadcastInDim S4096x128 ![] bcast_S_S4096x128),
    StableHlo.binary main_v16 main_call2_v2 main_call2_v3 addi,
    StableHlo.ternary main_call2_v1 main_call2_v3 main_v16 main_call2_v4 select,
    StableHlo.unary main_call2_v4 main_call2_v5 (broadcastInDim S4096x128x1 ![0, 1] bcast_S4096x128_S4096x128x1_0_1),
    StableHlo.nullary main_call2_c_1 (constantI S1 32 3#32),
    StableHlo.nullary main_call2_c_2 (constantI S_ 32 0#32),
    StableHlo.unary main_call2_c_2 main_call2_v6 (broadcastInDim S4096x128x1 ![] bcast_S_S4096x128x1),
    StableHlo.binary main_call2_v5 main_call2_v6 main_call2_v7 (cmpi .sge),
    StableHlo.unary main_call2_c_1 main_call2_v8 (broadcastInDim S1x1x1 ![2] bcast_S1_S1x1x1_2),
    StableHlo.unary main_call2_v8 main_call2_v9 (broadcastInDim S4096x128x1 ![0, 1, 2] bcast_S1x1x1_S4096x128x1_0_1_2),
    StableHlo.binary main_call2_v5 main_call2_v9 main_call2_v10 (cmpi .sle),
    StableHlo.binary main_call2_v7 main_call2_v10 main_call2_v11 andi,
    StableHlo.nullary main_call2_c_3 (constantI S_ 1 1#1),
    StableHlo.binary main_call2_v11 main_call2_c_3 main_call2_v12 (fun x v => Host.reduce IntOp.andi x v reducesTo_S4096x128x1_S4096x128_d2 h_S_),
    StableHlo.binary main_arg3 main_call2_v5 main_call2_v13 (fun x i => Host.gather gather_S4_S4096x128x1_S4096x128_n_0_n_n_0_2_1 x i),
    StableHlo.nullary main_call2_cst (constant S_ .f32 0x7FC00000#32),
    StableHlo.unary main_call2_cst main_call2_v14 (broadcastInDim S4096x128 ![] bcast_S_S4096x128),
    StableHlo.ternary main_call2_v12 main_call2_v13 main_call2_v14 main_v17 select ]

/-- They touch only buffers of the device. -/
theorem highEntry_sub : (highEntry (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations: what the upper half lacks, its length, and the signs of its sketch. -/
def highRest : List (HloOp τ sig (Elt F)) :=
  [ StableHlo.binary main_v8 main_v17 main_v18 (subf : (⟨S4096x128, .f32⟩ : BufTy).Contents (Elt F) → (⟨S4096x128, .f32⟩ : BufTy).Contents (Elt F) → (⟨S4096x128, .f32⟩ : BufTy).Contents (Elt F)),
    StableHlo.binary main_v18 main_v18 main_call3_v0 mulf,
    StableHlo.nullary main_call3_cst (constant S_ .f32 0x00000000#32),
    StableHlo.binary main_call3_v0 main_call3_cst main_call3_v1 (fun x v => Host.reduceAdd x v reducesTo_S4096x128_S4096_d1 h_S_),
    StableHlo.unary main_call3_v1 main_v19 Host.sqrt,
    StableHlo.unary main_arg5 main_v20 ((transpose S128x128 [1, 0] · transposes_S128x128_S128x128_1_0) : (⟨S128x128, .f32⟩ : BufTy).Contents (Elt F) → (⟨S128x128, .f32⟩ : BufTy).Contents (Elt F)),
    StableHlo.binary main_v18 main_v20 main_v21 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_cst_0 (constant S_ .f32 0x00000000#32),
    StableHlo.unary main_cst_0 main_v22 (broadcastInDim S4096x128 ![] bcast_S_S4096x128 : (⟨S_, .f32⟩ : BufTy).Contents (Elt F) → (⟨S4096x128, .f32⟩ : BufTy).Contents (Elt F)),
    StableHlo.binary main_v21 main_v22 main_v23 (cmpf .oge : (⟨S4096x128, .f32⟩ : BufTy).Contents (Elt F) → (⟨S4096x128, .f32⟩ : BufTy).Contents (Elt F) → (⟨S4096x128, .i1⟩ : BufTy).Contents (Elt F)),
    StableHlo.nullary main_cst_1 (constant S_ .f32 0x3F800000#32),
    StableHlo.nullary main_cst_2 (constant S_ .f32 0xBF800000#32),
    StableHlo.unary main_cst_1 main_call4_v0 (broadcastInDim S4096x128 ![] bcast_S_S4096x128),
    StableHlo.unary main_cst_2 main_call4_v1 (broadcastInDim S4096x128 ![] bcast_S_S4096x128),
    StableHlo.ternary main_v23 main_call4_v0 main_call4_v1 main_v24 select ]

/-- They touch only buffers of the device. -/
theorem highRest_sub : (highRest (F := F)).Forall fun op => op.bufs ⊆ tcRefs τ sig :=
  ⟨binary_bufs_sub .., binary_bufs_sub .., nullary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub ..⟩

/-- Operations: squared distances of the lower half to the two centroids, and the nearest one. -/
def lowCode : List (HloOp τ sig (Elt F)) :=
  [ StableHlo.unary main_v9 main_v25 (broadcastInDim S4096x128x1 ![0, 1] bcast_S4096x128_S4096x128x1_0_1 : (⟨S4096x128, .f32⟩ : BufTy).Contents (Elt F) → (⟨S4096x128x1, .f32⟩ : BufTy).Contents (Elt F)),
    StableHlo.unary main_arg4 main_v26 (broadcastInDim S1x1x2 ![2] bcast_S2_S1x1x2_2 : (⟨S2, .f32⟩ : BufTy).Contents (Elt F) → (⟨S1x1x2, .f32⟩ : BufTy).Contents (Elt F)),
    StableHlo.unary main_v25 main_v27 (broadcastInDim S4096x128x2 ![0, 1, 2] bcast_S4096x128x1_S4096x128x2_0_1_2 : (⟨S4096x128x1, .f32⟩ : BufTy).Contents (Elt F) → (⟨S4096x128x2, .f32⟩ : BufTy).Contents (Elt F)),
    StableHlo.unary main_v26 main_v28 (broadcastInDim S4096x128x2 ![0, 1, 2] bcast_S1x1x2_S4096x128x2_0_1_2 : (⟨S1x1x2, .f32⟩ : BufTy).Contents (Elt F) → (⟨S4096x128x2, .f32⟩ : BufTy).Contents (Elt F)),
    StableHlo.binary main_v27 main_v28 main_v29 (subf : (⟨S4096x128x2, .f32⟩ : BufTy).Contents (Elt F) → (⟨S4096x128x2, .f32⟩ : BufTy).Contents (Elt F) → (⟨S4096x128x2, .f32⟩ : BufTy).Contents (Elt F)),
    StableHlo.binary main_v29 main_v29 main_v30 (mulf : (⟨S4096x128x2, .f32⟩ : BufTy).Contents (Elt F) → (⟨S4096x128x2, .f32⟩ : BufTy).Contents (Elt F) → (⟨S4096x128x2, .f32⟩ : BufTy).Contents (Elt F)),
    StableHlo.nullary main_call5_v0 (iotaInDim S4096x128x2 32 2),
    StableHlo.nullary main_call5_cst (constant S_ .f32 0x7F800000#32),
    StableHlo.nullary main_call5_c (constantI S_ 32 0#32),
    StableHlo.quaternary main_v30 main_call5_v0 main_call5_cst main_call5_c main_call5_v1_0 (fun x y u v j => (Host.argReduce reducer_argmin_f32_i32 x y u v reducesTo_S4096x128x2_S4096x128_d2 h_S_ j).1),
    StableHlo.quaternary main_v30 main_call5_v0 main_call5_cst main_call5_c main_v31 (fun x y u v j => (Host.argReduce reducer_argmin_f32_i32 x y u v reducesTo_S4096x128x2_S4096x128_d2 h_S_ j).2) ]

/-- They touch only buffers of the device. -/
theorem lowCode_sub : (lowCode (F := F)).Forall fun op => op.bufs ⊆ tcRefs τ sig :=
  ⟨unary_bufs_sub .., unary_bufs_sub .., unary_bufs_sub .., unary_bufs_sub .., binary_bufs_sub .., binary_bufs_sub .., nullary_bufs_sub .., nullary_bufs_sub .., nullary_bufs_sub .., quaternary_bufs_sub .., quaternary_bufs_sub ..⟩

/-- Operations: the lower half as its centroids. -/
def lowEntry : List (HloOp τ sig (Elt F)) :=
  [ StableHlo.nullary main_call6_c (constantI S_ 32 0#32),
    StableHlo.unary main_call6_c main_call6_v0 (broadcastInDim S4096x128 ![] bcast_S_S4096x128),
    StableHlo.binary main_v31 main_call6_v0 main_call6_v1 (cmpi .slt),
    StableHlo.nullary main_call6_c_0 (constantI S_ 32 2#32),
    StableHlo.unary main_call6_c_0 main_call6_v2 (broadcastInDim S4096x128 ![] bcast_S_S4096x128),
    StableHlo.binary main_v31 main_call6_v2 main_call6_v3 addi,
    StableHlo.ternary main_call6_v1 main_call6_v3 main_v31 main_call6_v4 select,
    StableHlo.unary main_call6_v4 main_call6_v5 (broadcastInDim S4096x128x1 ![0, 1] bcast_S4096x128_S4096x128x1_0_1),
    StableHlo.nullary main_call6_c_1 (constantI S1 32 1#32),
    StableHlo.nullary main_call6_c_2 (constantI S_ 32 0#32),
    StableHlo.unary main_call6_c_2 main_call6_v6 (broadcastInDim S4096x128x1 ![] bcast_S_S4096x128x1),
    StableHlo.binary main_call6_v5 main_call6_v6 main_call6_v7 (cmpi .sge),
    StableHlo.unary main_call6_c_1 main_call6_v8 (broadcastInDim S1x1x1 ![2] bcast_S1_S1x1x1_2),
    StableHlo.unary main_call6_v8 main_call6_v9 (broadcastInDim S4096x128x1 ![0, 1, 2] bcast_S1x1x1_S4096x128x1_0_1_2),
    StableHlo.binary main_call6_v5 main_call6_v9 main_call6_v10 (cmpi .sle),
    StableHlo.binary main_call6_v7 main_call6_v10 main_call6_v11 andi,
    StableHlo.nullary main_call6_c_3 (constantI S_ 1 1#1),
    StableHlo.binary main_call6_v11 main_call6_c_3 main_call6_v12 (fun x v => Host.reduce IntOp.andi x v reducesTo_S4096x128x1_S4096x128_d2 h_S_),
    StableHlo.binary main_arg4 main_call6_v5 main_call6_v13 (fun x i => Host.gather gather_S2_S4096x128x1_S4096x128_n_0_n_n_0_2_1 x i),
    StableHlo.nullary main_call6_cst (constant S_ .f32 0x7FC00000#32),
    StableHlo.unary main_call6_cst main_call6_v14 (broadcastInDim S4096x128 ![] bcast_S_S4096x128),
    StableHlo.ternary main_call6_v12 main_call6_v13 main_call6_v14 main_v32 select ]

/-- They touch only buffers of the device. -/
theorem lowEntry_sub : (lowEntry (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations: what the lower half lacks, its length, and the signs of its sketch. -/
def lowRest : List (HloOp τ sig (Elt F)) :=
  [ StableHlo.binary main_v9 main_v32 main_v33 (subf : (⟨S4096x128, .f32⟩ : BufTy).Contents (Elt F) → (⟨S4096x128, .f32⟩ : BufTy).Contents (Elt F) → (⟨S4096x128, .f32⟩ : BufTy).Contents (Elt F)),
    StableHlo.binary main_v33 main_v33 main_call7_v0 mulf,
    StableHlo.nullary main_call7_cst (constant S_ .f32 0x00000000#32),
    StableHlo.binary main_call7_v0 main_call7_cst main_call7_v1 (fun x v => Host.reduceAdd x v reducesTo_S4096x128_S4096_d1 h_S_),
    StableHlo.unary main_call7_v1 main_v34 Host.sqrt,
    StableHlo.unary main_arg6 main_v35 ((transpose S128x128 [1, 0] · transposes_S128x128_S128x128_1_0) : (⟨S128x128, .f32⟩ : BufTy).Contents (Elt F) → (⟨S128x128, .f32⟩ : BufTy).Contents (Elt F)),
    StableHlo.binary main_v33 main_v35 main_v36 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_cst_3 (constant S_ .f32 0x00000000#32),
    StableHlo.unary main_cst_3 main_v37 (broadcastInDim S4096x128 ![] bcast_S_S4096x128 : (⟨S_, .f32⟩ : BufTy).Contents (Elt F) → (⟨S4096x128, .f32⟩ : BufTy).Contents (Elt F)),
    StableHlo.binary main_v36 main_v37 main_v38 (cmpf .oge : (⟨S4096x128, .f32⟩ : BufTy).Contents (Elt F) → (⟨S4096x128, .f32⟩ : BufTy).Contents (Elt F) → (⟨S4096x128, .i1⟩ : BufTy).Contents (Elt F)),
    StableHlo.nullary main_cst_4 (constant S_ .f32 0x3F800000#32),
    StableHlo.nullary main_cst_5 (constant S_ .f32 0xBF800000#32),
    StableHlo.unary main_cst_4 main_call8_v0 (broadcastInDim S4096x128 ![] bcast_S_S4096x128),
    StableHlo.unary main_cst_5 main_call8_v1 (broadcastInDim S4096x128 ![] bcast_S_S4096x128),
    StableHlo.ternary main_v38 main_call8_v0 main_call8_v1 main_v39 select ]

/-- They touch only buffers of the device. -/
theorem lowRest_sub : (lowRest (F := F)).Forall fun op => op.bufs ⊆ tcRefs τ sig :=
  ⟨binary_bufs_sub .., binary_bufs_sub .., nullary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub ..⟩

/-- Operations: the rotated queries and their two halves. -/
def query : List (HloOp τ sig (Elt F)) :=
  [ StableHlo.unary main_arg2 main_v40 ((transpose S256x256 [1, 0] · transposes_S256x256_S256x256_1_0) : (⟨S256x256, .f32⟩ : BufTy).Contents (Elt F) → (⟨S256x256, .f32⟩ : BufTy).Contents (Elt F)),
    StableHlo.binary main_arg0 main_v40 main_v41 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_v41 main_v42 ((extractStridedSlice S4096x128 ![0, 0] · slices_S4096x256_S4096x128_0_0) : (⟨S4096x256, .f32⟩ : BufTy).Contents (Elt F) → (⟨S4096x128, .f32⟩ : BufTy).Contents (Elt F)),
    StableHlo.unary main_v41 main_v43 ((extractStridedSlice S4096x128 ![0, 128] · slices_S4096x256_S4096x128_0_128) : (⟨S4096x256, .f32⟩ : BufTy).Contents (Elt F) → (⟨S4096x128, .f32⟩ : BufTy).Contents (Elt F)) ]

/-- They touch only buffers of the device. -/
theorem query_sub : (query (F := F)).Forall fun op => op.bufs ⊆ tcRefs τ sig :=
  ⟨unary_bufs_sub .., binary_bufs_sub .., unary_bufs_sub .., unary_bufs_sub ..⟩

/-- Operations: the upper centroids once more. -/
def highAgain : List (HloOp τ sig (Elt F)) :=
  [ StableHlo.nullary main_call9_c (constantI S_ 32 0#32),
    StableHlo.unary main_call9_c main_call9_v0 (broadcastInDim S4096x128 ![] bcast_S_S4096x128),
    StableHlo.binary main_v16 main_call9_v0 main_call9_v1 (cmpi .slt),
    StableHlo.nullary main_call9_c_0 (constantI S_ 32 4#32),
    StableHlo.unary main_call9_c_0 main_call9_v2 (broadcastInDim S4096x128 ![] bcast_S_S4096x128),
    StableHlo.binary main_v16 main_call9_v2 main_call9_v3 addi,
    StableHlo.ternary main_call9_v1 main_call9_v3 main_v16 main_call9_v4 select,
    StableHlo.unary main_call9_v4 main_call9_v5 (broadcastInDim S4096x128x1 ![0, 1] bcast_S4096x128_S4096x128x1_0_1),
    StableHlo.nullary main_call9_c_1 (constantI S1 32 3#32),
    StableHlo.nullary main_call9_c_2 (constantI S_ 32 0#32),
    StableHlo.unary main_call9_c_2 main_call9_v6 (broadcastInDim S4096x128x1 ![] bcast_S_S4096x128x1),
    StableHlo.binary main_call9_v5 main_call9_v6 main_call9_v7 (cmpi .sge),
    StableHlo.unary main_call9_c_1 main_call9_v8 (broadcastInDim S1x1x1 ![2] bcast_S1_S1x1x1_2),
    StableHlo.unary main_call9_v8 main_call9_v9 (broadcastInDim S4096x128x1 ![0, 1, 2] bcast_S1x1x1_S4096x128x1_0_1_2),
    StableHlo.binary main_call9_v5 main_call9_v9 main_call9_v10 (cmpi .sle),
    StableHlo.binary main_call9_v7 main_call9_v10 main_call9_v11 andi,
    StableHlo.nullary main_call9_c_3 (constantI S_ 1 1#1),
    StableHlo.binary main_call9_v11 main_call9_c_3 main_call9_v12 (fun x v => Host.reduce IntOp.andi x v reducesTo_S4096x128x1_S4096x128_d2 h_S_),
    StableHlo.binary main_arg3 main_call9_v5 main_call9_v13 (fun x i => Host.gather gather_S4_S4096x128x1_S4096x128_n_0_n_n_0_2_1 x i),
    StableHlo.nullary main_call9_cst (constant S_ .f32 0x7FC00000#32),
    StableHlo.unary main_call9_cst main_call9_v14 (broadcastInDim S4096x128 ![] bcast_S_S4096x128),
    StableHlo.ternary main_call9_v12 main_call9_v13 main_call9_v14 main_v44 select ]

/-- They touch only buffers of the device. -/
theorem highAgain_sub : (highAgain (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations: the two products of the upper half and the square root of the constant. -/
def highScore : List (HloOp τ sig (Elt F)) :=
  [ StableHlo.unary main_v44 main_v45 ((transpose S128x4096 [1, 0] · transposes_S4096x128_S128x4096_1_0) : (⟨S4096x128, .f32⟩ : BufTy).Contents (Elt F) → (⟨S128x4096, .f32⟩ : BufTy).Contents (Elt F)),
    StableHlo.binary main_v42 main_v45 main_v46 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.unary main_arg5 main_v47 ((transpose S128x128 [1, 0] · transposes_S128x128_S128x128_1_0) : (⟨S128x128, .f32⟩ : BufTy).Contents (Elt F) → (⟨S128x128, .f32⟩ : BufTy).Contents (Elt F)),
    StableHlo.binary main_v42 main_v47 main_v48 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.unary main_v24 main_v49 ((transpose S128x4096 [1, 0] · transposes_S4096x128_S128x4096_1_0) : (⟨S4096x128, .f32⟩ : BufTy).Contents (Elt F) → (⟨S128x4096, .f32⟩ : BufTy).Contents (Elt F)),
    StableHlo.binary main_v48 main_v49 main_v50 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.nullary main_cst_6 (constant S_ .f32 0x3FC90FDB#32),
    StableHlo.unary main_cst_6 main_v51 (Host.sqrt : (⟨S_, .f32⟩ : BufTy).Contents (Elt F) → (⟨S_, .f32⟩ : BufTy).Contents (Elt F)) ]

/-- They touch only buffers of the device. -/
theorem highScore_sub : (highScore (F := F)).Forall fun op => op.bufs ⊆ tcRefs τ sig :=
  ⟨unary_bufs_sub .., binary_bufs_sub .., unary_bufs_sub .., binary_bufs_sub .., unary_bufs_sub .., binary_bufs_sub .., nullary_bufs_sub .., unary_bufs_sub ..⟩

/-- Operations: the upper half of the score. -/
def highScaled : List (HloOp τ sig (Elt F)) :=
  [ StableHlo.nullary main_cst_7 (constant S_ .f32 0x43000000#32),
    StableHlo.binary main_v51 main_cst_7 main_v52 (Host.divf : (⟨S_, .f32⟩ : BufTy).Contents (Elt F) → (⟨S_, .f32⟩ : BufTy).Contents (Elt F) → (⟨S_, .f32⟩ : BufTy).Contents (Elt F)),
    StableHlo.unary main_v52 main_v53 (id : (⟨S_, .f32⟩ : BufTy).Contents (Elt F) → (⟨S_, .f32⟩ : BufTy).Contents (Elt F)),
    StableHlo.unary main_v53 main_v54 (broadcastInDim S4096x4096 ![] bcast_S_S4096x4096 : (⟨S_, .f32⟩ : BufTy).Contents (Elt F) → (⟨S4096x4096, .f32⟩ : BufTy).Contents (Elt F)),
    StableHlo.binary main_v50 main_v54 main_v55 (mulf : (⟨S4096x4096, .f32⟩ : BufTy).Contents (Elt F) → (⟨S4096x4096, .f32⟩ : BufTy).Contents (Elt F) → (⟨S4096x4096, .f32⟩ : BufTy).Contents (Elt F)),
    StableHlo.unary main_v19 main_v56 (broadcastInDim S1x4096 ![1] bcast_S4096_S1x4096_1 : (⟨S4096, .f32⟩ : BufTy).Contents (Elt F) → (⟨S1x4096, .f32⟩ : BufTy).Contents (Elt F)),
    StableHlo.unary main_v56 main_v57 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v55 main_v57 main_v58 (mulf : (⟨S4096x4096, .f32⟩ : BufTy).Contents (Elt F) → (⟨S4096x4096, .f32⟩ : BufTy).Contents (Elt F) → (⟨S4096x4096, .f32⟩ : BufTy).Contents (Elt F)),
    StableHlo.binary main_v46 main_v58 main_v59 (addf : (⟨S4096x4096, .f32⟩ : BufTy).Contents (Elt F) → (⟨S4096x4096, .f32⟩ : BufTy).Contents (Elt F) → (⟨S4096x4096, .f32⟩ : BufTy).Contents (Elt F)) ]

/-- They touch only buffers of the device. -/
theorem highScaled_sub : (highScaled (F := F)).Forall fun op => op.bufs ⊆ tcRefs τ sig :=
  ⟨nullary_bufs_sub .., binary_bufs_sub .., unary_bufs_sub .., unary_bufs_sub .., binary_bufs_sub .., unary_bufs_sub .., unary_bufs_sub .., binary_bufs_sub .., binary_bufs_sub ..⟩

/-- Operations: the lower centroids once more. -/
def lowAgain : List (HloOp τ sig (Elt F)) :=
  [ StableHlo.nullary main_call10_c (constantI S_ 32 0#32),
    StableHlo.unary main_call10_c main_call10_v0 (broadcastInDim S4096x128 ![] bcast_S_S4096x128),
    StableHlo.binary main_v31 main_call10_v0 main_call10_v1 (cmpi .slt),
    StableHlo.nullary main_call10_c_0 (constantI S_ 32 2#32),
    StableHlo.unary main_call10_c_0 main_call10_v2 (broadcastInDim S4096x128 ![] bcast_S_S4096x128),
    StableHlo.binary main_v31 main_call10_v2 main_call10_v3 addi,
    StableHlo.ternary main_call10_v1 main_call10_v3 main_v31 main_call10_v4 select,
    StableHlo.unary main_call10_v4 main_call10_v5 (broadcastInDim S4096x128x1 ![0, 1] bcast_S4096x128_S4096x128x1_0_1),
    StableHlo.nullary main_call10_c_1 (constantI S1 32 1#32),
    StableHlo.nullary main_call10_c_2 (constantI S_ 32 0#32),
    StableHlo.unary main_call10_c_2 main_call10_v6 (broadcastInDim S4096x128x1 ![] bcast_S_S4096x128x1),
    StableHlo.binary main_call10_v5 main_call10_v6 main_call10_v7 (cmpi .sge),
    StableHlo.unary main_call10_c_1 main_call10_v8 (broadcastInDim S1x1x1 ![2] bcast_S1_S1x1x1_2),
    StableHlo.unary main_call10_v8 main_call10_v9 (broadcastInDim S4096x128x1 ![0, 1, 2] bcast_S1x1x1_S4096x128x1_0_1_2),
    StableHlo.binary main_call10_v5 main_call10_v9 main_call10_v10 (cmpi .sle),
    StableHlo.binary main_call10_v7 main_call10_v10 main_call10_v11 andi,
    StableHlo.nullary main_call10_c_3 (constantI S_ 1 1#1),
    StableHlo.binary main_call10_v11 main_call10_c_3 main_call10_v12 (fun x v => Host.reduce IntOp.andi x v reducesTo_S4096x128x1_S4096x128_d2 h_S_),
    StableHlo.binary main_arg4 main_call10_v5 main_call10_v13 (fun x i => Host.gather gather_S2_S4096x128x1_S4096x128_n_0_n_n_0_2_1 x i),
    StableHlo.nullary main_call10_cst (constant S_ .f32 0x7FC00000#32),
    StableHlo.unary main_call10_cst main_call10_v14 (broadcastInDim S4096x128 ![] bcast_S_S4096x128),
    StableHlo.ternary main_call10_v12 main_call10_v13 main_call10_v14 main_v60 select ]

/-- They touch only buffers of the device. -/
theorem lowAgain_sub : (lowAgain (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations: the lower half of the score, the sum and the scaling by the norm. -/
def score : List (HloOp τ sig (Elt F)) :=
  [ StableHlo.unary main_v60 main_v61 ((transpose S128x4096 [1, 0] · transposes_S4096x128_S128x4096_1_0) : (⟨S4096x128, .f32⟩ : BufTy).Contents (Elt F) → (⟨S128x4096, .f32⟩ : BufTy).Contents (Elt F)),
    StableHlo.binary main_v43 main_v61 main_v62 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.unary main_arg6 main_v63 ((transpose S128x128 [1, 0] · transposes_S128x128_S128x128_1_0) : (⟨S128x128, .f32⟩ : BufTy).Contents (Elt F) → (⟨S128x128, .f32⟩ : BufTy).Contents (Elt F)),
    StableHlo.binary main_v43 main_v63 main_v64 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.unary main_v39 main_v65 ((transpose S128x4096 [1, 0] · transposes_S4096x128_S128x4096_1_0) : (⟨S4096x128, .f32⟩ : BufTy).Contents (Elt F) → (⟨S128x4096, .f32⟩ : BufTy).Contents (Elt F)),
    StableHlo.binary main_v64 main_v65 main_v66 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    StableHlo.nullary main_cst_8 (constant S_ .f32 0x3FC90FDB#32),
    StableHlo.unary main_cst_8 main_v67 (Host.sqrt : (⟨S_, .f32⟩ : BufTy).Contents (Elt F) → (⟨S_, .f32⟩ : BufTy).Contents (Elt F)),
    StableHlo.nullary main_cst_9 (constant S_ .f32 0x43000000#32),
    StableHlo.binary main_v67 main_cst_9 main_v68 (Host.divf : (⟨S_, .f32⟩ : BufTy).Contents (Elt F) → (⟨S_, .f32⟩ : BufTy).Contents (Elt F) → (⟨S_, .f32⟩ : BufTy).Contents (Elt F)),
    StableHlo.unary main_v68 main_v69 (id : (⟨S_, .f32⟩ : BufTy).Contents (Elt F) → (⟨S_, .f32⟩ : BufTy).Contents (Elt F)),
    StableHlo.unary main_v69 main_v70 (broadcastInDim S4096x4096 ![] bcast_S_S4096x4096 : (⟨S_, .f32⟩ : BufTy).Contents (Elt F) → (⟨S4096x4096, .f32⟩ : BufTy).Contents (Elt F)),
    StableHlo.binary main_v66 main_v70 main_v71 (mulf : (⟨S4096x4096, .f32⟩ : BufTy).Contents (Elt F) → (⟨S4096x4096, .f32⟩ : BufTy).Contents (Elt F) → (⟨S4096x4096, .f32⟩ : BufTy).Contents (Elt F)),
    StableHlo.unary main_v34 main_v72 (broadcastInDim S1x4096 ![1] bcast_S4096_S1x4096_1 : (⟨S4096, .f32⟩ : BufTy).Contents (Elt F) → (⟨S1x4096, .f32⟩ : BufTy).Contents (Elt F)),
    StableHlo.unary main_v72 main_v73 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v71 main_v73 main_v74 (mulf : (⟨S4096x4096, .f32⟩ : BufTy).Contents (Elt F) → (⟨S4096x4096, .f32⟩ : BufTy).Contents (Elt F) → (⟨S4096x4096, .f32⟩ : BufTy).Contents (Elt F)),
    StableHlo.binary main_v62 main_v74 main_v75 (addf : (⟨S4096x4096, .f32⟩ : BufTy).Contents (Elt F) → (⟨S4096x4096, .f32⟩ : BufTy).Contents (Elt F) → (⟨S4096x4096, .f32⟩ : BufTy).Contents (Elt F)),
    StableHlo.binary main_v59 main_v75 main_v76 (addf : (⟨S4096x4096, .f32⟩ : BufTy).Contents (Elt F) → (⟨S4096x4096, .f32⟩ : BufTy).Contents (Elt F) → (⟨S4096x4096, .f32⟩ : BufTy).Contents (Elt F)),
    StableHlo.unary main_v0 main_v77 (broadcastInDim S1x4096 ![1] bcast_S4096_S1x4096_1 : (⟨S4096, .f32⟩ : BufTy).Contents (Elt F) → (⟨S1x4096, .f32⟩ : BufTy).Contents (Elt F)),
    StableHlo.unary main_v77 main_v78 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v76 main_v78 main_v79 (mulf : (⟨S4096x4096, .f32⟩ : BufTy).Contents (Elt F) → (⟨S4096x4096, .f32⟩ : BufTy).Contents (Elt F) → (⟨S4096x4096, .f32⟩ : BufTy).Contents (Elt F)) ]

/-- They touch only buffers of the device. -/
theorem score_sub : (score (F := F)).Forall fun op => op.bufs ⊆ tcRefs τ sig :=
  ⟨unary_bufs_sub .., binary_bufs_sub .., unary_bufs_sub .., binary_bufs_sub .., unary_bufs_sub .., binary_bufs_sub .., nullary_bufs_sub .., unary_bufs_sub .., nullary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub ..⟩

/-- The call's operations in order. -/
theorem call0_eq : fn_norm.body (F := F) (.of main_arg1) main_call0 = seq
  [ StableHlo.binary main_arg1 main_arg1 main_call0_v0 mulf,
    StableHlo.nullary main_call0_cst (constant S_ .f32 0x00000000#32),
    StableHlo.binary main_call0_v0 main_call0_cst main_call0_v1 (fun x v => Host.reduceAdd x v reducesTo_S4096x256_S4096_d1 h_S_),
    StableHlo.unary main_call0_v1 main_v0 Host.sqrt ] := id rfl

/-- The call's operations in order. -/
theorem call1_eq : fn_argmin.body (F := F) (.of main_v15) main_call1 = seq
  [ StableHlo.nullary main_call1_v0 (iotaInDim S4096x128x4 32 2),
    StableHlo.nullary main_call1_cst (constant S_ .f32 0x7F800000#32),
    StableHlo.nullary main_call1_c (constantI S_ 32 0#32),
    StableHlo.quaternary main_v15 main_call1_v0 main_call1_cst main_call1_c main_call1_v1_0 (fun x y u v j => (Host.argReduce reducer_argmin_f32_i32 x y u v reducesTo_S4096x128x4_S4096x128_d2 h_S_ j).1),
    StableHlo.quaternary main_v15 main_call1_v0 main_call1_cst main_call1_c main_v16 (fun x y u v j => (Host.argReduce reducer_argmin_f32_i32 x y u v reducesTo_S4096x128x4_S4096x128_d2 h_S_ j).2) ] := id rfl

/-- The call's operations in order. -/
theorem call2_eq : fn_take.body (F := F) (.of main_arg3) (.of main_v16) main_call2 = seq
  [ StableHlo.nullary main_call2_c (constantI S_ 32 0#32),
    StableHlo.unary main_call2_c main_call2_v0 (broadcastInDim S4096x128 ![] bcast_S_S4096x128),
    StableHlo.binary main_v16 main_call2_v0 main_call2_v1 (cmpi .slt),
    StableHlo.nullary main_call2_c_0 (constantI S_ 32 4#32),
    StableHlo.unary main_call2_c_0 main_call2_v2 (broadcastInDim S4096x128 ![] bcast_S_S4096x128),
    StableHlo.binary main_v16 main_call2_v2 main_call2_v3 addi,
    StableHlo.ternary main_call2_v1 main_call2_v3 main_v16 main_call2_v4 select,
    StableHlo.unary main_call2_v4 main_call2_v5 (broadcastInDim S4096x128x1 ![0, 1] bcast_S4096x128_S4096x128x1_0_1),
    StableHlo.nullary main_call2_c_1 (constantI S1 32 3#32),
    StableHlo.nullary main_call2_c_2 (constantI S_ 32 0#32),
    StableHlo.unary main_call2_c_2 main_call2_v6 (broadcastInDim S4096x128x1 ![] bcast_S_S4096x128x1),
    StableHlo.binary main_call2_v5 main_call2_v6 main_call2_v7 (cmpi .sge),
    StableHlo.unary main_call2_c_1 main_call2_v8 (broadcastInDim S1x1x1 ![2] bcast_S1_S1x1x1_2),
    StableHlo.unary main_call2_v8 main_call2_v9 (broadcastInDim S4096x128x1 ![0, 1, 2] bcast_S1x1x1_S4096x128x1_0_1_2),
    StableHlo.binary main_call2_v5 main_call2_v9 main_call2_v10 (cmpi .sle),
    StableHlo.binary main_call2_v7 main_call2_v10 main_call2_v11 andi,
    StableHlo.nullary main_call2_c_3 (constantI S_ 1 1#1),
    StableHlo.binary main_call2_v11 main_call2_c_3 main_call2_v12 (fun x v => Host.reduce IntOp.andi x v reducesTo_S4096x128x1_S4096x128_d2 h_S_),
    StableHlo.binary main_arg3 main_call2_v5 main_call2_v13 (fun x i => Host.gather gather_S4_S4096x128x1_S4096x128_n_0_n_n_0_2_1 x i),
    StableHlo.nullary main_call2_cst (constant S_ .f32 0x7FC00000#32),
    StableHlo.unary main_call2_cst main_call2_v14 (broadcastInDim S4096x128 ![] bcast_S_S4096x128),
    StableHlo.ternary main_call2_v12 main_call2_v13 main_call2_v14 main_v17 select ] := by
  simp only [fn_take.body, fn_where.body, main_call2, main_call2_call0, TRef.nullary, TRef.unary, TRef.binary, TRef.ternary, cast_eq, seq,
    bind_assoc, pure_bind]
  rfl

/-- The call's operations in order. -/
theorem call3_eq : fn_norm_0.body (F := F) (.of main_v18) main_call3 = seq
  [ StableHlo.binary main_v18 main_v18 main_call3_v0 mulf,
    StableHlo.nullary main_call3_cst (constant S_ .f32 0x00000000#32),
    StableHlo.binary main_call3_v0 main_call3_cst main_call3_v1 (fun x v => Host.reduceAdd x v reducesTo_S4096x128_S4096_d1 h_S_),
    StableHlo.unary main_call3_v1 main_v19 Host.sqrt ] := id rfl

/-- The call's operations in order. -/
theorem call4_eq : fn_where_1.body (F := F) (.of main_v23) (.of main_cst_1) (.of main_cst_2) main_call4 = seq
  [ StableHlo.unary main_cst_1 main_call4_v0 (broadcastInDim S4096x128 ![] bcast_S_S4096x128),
    StableHlo.unary main_cst_2 main_call4_v1 (broadcastInDim S4096x128 ![] bcast_S_S4096x128),
    StableHlo.ternary main_v23 main_call4_v0 main_call4_v1 main_v24 select ] := id rfl

/-- The call's operations in order. -/
theorem call5_eq : fn_argmin_2.body (F := F) (.of main_v30) main_call5 = seq
  [ StableHlo.nullary main_call5_v0 (iotaInDim S4096x128x2 32 2),
    StableHlo.nullary main_call5_cst (constant S_ .f32 0x7F800000#32),
    StableHlo.nullary main_call5_c (constantI S_ 32 0#32),
    StableHlo.quaternary main_v30 main_call5_v0 main_call5_cst main_call5_c main_call5_v1_0 (fun x y u v j => (Host.argReduce reducer_argmin_f32_i32 x y u v reducesTo_S4096x128x2_S4096x128_d2 h_S_ j).1),
    StableHlo.quaternary main_v30 main_call5_v0 main_call5_cst main_call5_c main_v31 (fun x y u v j => (Host.argReduce reducer_argmin_f32_i32 x y u v reducesTo_S4096x128x2_S4096x128_d2 h_S_ j).2) ] := id rfl

/-- The call's operations in order. -/
theorem call6_eq : fn_take_3.body (F := F) (.of main_arg4) (.of main_v31) main_call6 = seq
  [ StableHlo.nullary main_call6_c (constantI S_ 32 0#32),
    StableHlo.unary main_call6_c main_call6_v0 (broadcastInDim S4096x128 ![] bcast_S_S4096x128),
    StableHlo.binary main_v31 main_call6_v0 main_call6_v1 (cmpi .slt),
    StableHlo.nullary main_call6_c_0 (constantI S_ 32 2#32),
    StableHlo.unary main_call6_c_0 main_call6_v2 (broadcastInDim S4096x128 ![] bcast_S_S4096x128),
    StableHlo.binary main_v31 main_call6_v2 main_call6_v3 addi,
    StableHlo.ternary main_call6_v1 main_call6_v3 main_v31 main_call6_v4 select,
    StableHlo.unary main_call6_v4 main_call6_v5 (broadcastInDim S4096x128x1 ![0, 1] bcast_S4096x128_S4096x128x1_0_1),
    StableHlo.nullary main_call6_c_1 (constantI S1 32 1#32),
    StableHlo.nullary main_call6_c_2 (constantI S_ 32 0#32),
    StableHlo.unary main_call6_c_2 main_call6_v6 (broadcastInDim S4096x128x1 ![] bcast_S_S4096x128x1),
    StableHlo.binary main_call6_v5 main_call6_v6 main_call6_v7 (cmpi .sge),
    StableHlo.unary main_call6_c_1 main_call6_v8 (broadcastInDim S1x1x1 ![2] bcast_S1_S1x1x1_2),
    StableHlo.unary main_call6_v8 main_call6_v9 (broadcastInDim S4096x128x1 ![0, 1, 2] bcast_S1x1x1_S4096x128x1_0_1_2),
    StableHlo.binary main_call6_v5 main_call6_v9 main_call6_v10 (cmpi .sle),
    StableHlo.binary main_call6_v7 main_call6_v10 main_call6_v11 andi,
    StableHlo.nullary main_call6_c_3 (constantI S_ 1 1#1),
    StableHlo.binary main_call6_v11 main_call6_c_3 main_call6_v12 (fun x v => Host.reduce IntOp.andi x v reducesTo_S4096x128x1_S4096x128_d2 h_S_),
    StableHlo.binary main_arg4 main_call6_v5 main_call6_v13 (fun x i => Host.gather gather_S2_S4096x128x1_S4096x128_n_0_n_n_0_2_1 x i),
    StableHlo.nullary main_call6_cst (constant S_ .f32 0x7FC00000#32),
    StableHlo.unary main_call6_cst main_call6_v14 (broadcastInDim S4096x128 ![] bcast_S_S4096x128),
    StableHlo.ternary main_call6_v12 main_call6_v13 main_call6_v14 main_v32 select ] := by
  simp only [fn_take_3.body, fn_where.body, main_call6, main_call6_call0, TRef.nullary, TRef.unary, TRef.binary, TRef.ternary, cast_eq, seq,
    bind_assoc, pure_bind]
  rfl

/-- The call's operations in order. -/
theorem call7_eq : fn_norm_0.body (F := F) (.of main_v33) main_call7 = seq
  [ StableHlo.binary main_v33 main_v33 main_call7_v0 mulf,
    StableHlo.nullary main_call7_cst (constant S_ .f32 0x00000000#32),
    StableHlo.binary main_call7_v0 main_call7_cst main_call7_v1 (fun x v => Host.reduceAdd x v reducesTo_S4096x128_S4096_d1 h_S_),
    StableHlo.unary main_call7_v1 main_v34 Host.sqrt ] := id rfl

/-- The call's operations in order. -/
theorem call8_eq : fn_where_1.body (F := F) (.of main_v38) (.of main_cst_4) (.of main_cst_5) main_call8 = seq
  [ StableHlo.unary main_cst_4 main_call8_v0 (broadcastInDim S4096x128 ![] bcast_S_S4096x128),
    StableHlo.unary main_cst_5 main_call8_v1 (broadcastInDim S4096x128 ![] bcast_S_S4096x128),
    StableHlo.ternary main_v38 main_call8_v0 main_call8_v1 main_v39 select ] := id rfl

/-- The call's operations in order. -/
theorem call9_eq : fn_take.body (F := F) (.of main_arg3) (.of main_v16) main_call9 = seq
  [ StableHlo.nullary main_call9_c (constantI S_ 32 0#32),
    StableHlo.unary main_call9_c main_call9_v0 (broadcastInDim S4096x128 ![] bcast_S_S4096x128),
    StableHlo.binary main_v16 main_call9_v0 main_call9_v1 (cmpi .slt),
    StableHlo.nullary main_call9_c_0 (constantI S_ 32 4#32),
    StableHlo.unary main_call9_c_0 main_call9_v2 (broadcastInDim S4096x128 ![] bcast_S_S4096x128),
    StableHlo.binary main_v16 main_call9_v2 main_call9_v3 addi,
    StableHlo.ternary main_call9_v1 main_call9_v3 main_v16 main_call9_v4 select,
    StableHlo.unary main_call9_v4 main_call9_v5 (broadcastInDim S4096x128x1 ![0, 1] bcast_S4096x128_S4096x128x1_0_1),
    StableHlo.nullary main_call9_c_1 (constantI S1 32 3#32),
    StableHlo.nullary main_call9_c_2 (constantI S_ 32 0#32),
    StableHlo.unary main_call9_c_2 main_call9_v6 (broadcastInDim S4096x128x1 ![] bcast_S_S4096x128x1),
    StableHlo.binary main_call9_v5 main_call9_v6 main_call9_v7 (cmpi .sge),
    StableHlo.unary main_call9_c_1 main_call9_v8 (broadcastInDim S1x1x1 ![2] bcast_S1_S1x1x1_2),
    StableHlo.unary main_call9_v8 main_call9_v9 (broadcastInDim S4096x128x1 ![0, 1, 2] bcast_S1x1x1_S4096x128x1_0_1_2),
    StableHlo.binary main_call9_v5 main_call9_v9 main_call9_v10 (cmpi .sle),
    StableHlo.binary main_call9_v7 main_call9_v10 main_call9_v11 andi,
    StableHlo.nullary main_call9_c_3 (constantI S_ 1 1#1),
    StableHlo.binary main_call9_v11 main_call9_c_3 main_call9_v12 (fun x v => Host.reduce IntOp.andi x v reducesTo_S4096x128x1_S4096x128_d2 h_S_),
    StableHlo.binary main_arg3 main_call9_v5 main_call9_v13 (fun x i => Host.gather gather_S4_S4096x128x1_S4096x128_n_0_n_n_0_2_1 x i),
    StableHlo.nullary main_call9_cst (constant S_ .f32 0x7FC00000#32),
    StableHlo.unary main_call9_cst main_call9_v14 (broadcastInDim S4096x128 ![] bcast_S_S4096x128),
    StableHlo.ternary main_call9_v12 main_call9_v13 main_call9_v14 main_v44 select ] := by
  simp only [fn_take.body, fn_where.body, main_call9, main_call9_call0, TRef.nullary, TRef.unary, TRef.binary, TRef.ternary, cast_eq, seq,
    bind_assoc, pure_bind]
  rfl

/-- The call's operations in order. -/
theorem call10_eq : fn_take_3.body (F := F) (.of main_arg4) (.of main_v31) main_call10 = seq
  [ StableHlo.nullary main_call10_c (constantI S_ 32 0#32),
    StableHlo.unary main_call10_c main_call10_v0 (broadcastInDim S4096x128 ![] bcast_S_S4096x128),
    StableHlo.binary main_v31 main_call10_v0 main_call10_v1 (cmpi .slt),
    StableHlo.nullary main_call10_c_0 (constantI S_ 32 2#32),
    StableHlo.unary main_call10_c_0 main_call10_v2 (broadcastInDim S4096x128 ![] bcast_S_S4096x128),
    StableHlo.binary main_v31 main_call10_v2 main_call10_v3 addi,
    StableHlo.ternary main_call10_v1 main_call10_v3 main_v31 main_call10_v4 select,
    StableHlo.unary main_call10_v4 main_call10_v5 (broadcastInDim S4096x128x1 ![0, 1] bcast_S4096x128_S4096x128x1_0_1),
    StableHlo.nullary main_call10_c_1 (constantI S1 32 1#32),
    StableHlo.nullary main_call10_c_2 (constantI S_ 32 0#32),
    StableHlo.unary main_call10_c_2 main_call10_v6 (broadcastInDim S4096x128x1 ![] bcast_S_S4096x128x1),
    StableHlo.binary main_call10_v5 main_call10_v6 main_call10_v7 (cmpi .sge),
    StableHlo.unary main_call10_c_1 main_call10_v8 (broadcastInDim S1x1x1 ![2] bcast_S1_S1x1x1_2),
    StableHlo.unary main_call10_v8 main_call10_v9 (broadcastInDim S4096x128x1 ![0, 1, 2] bcast_S1x1x1_S4096x128x1_0_1_2),
    StableHlo.binary main_call10_v5 main_call10_v9 main_call10_v10 (cmpi .sle),
    StableHlo.binary main_call10_v7 main_call10_v10 main_call10_v11 andi,
    StableHlo.nullary main_call10_c_3 (constantI S_ 1 1#1),
    StableHlo.binary main_call10_v11 main_call10_c_3 main_call10_v12 (fun x v => Host.reduce IntOp.andi x v reducesTo_S4096x128x1_S4096x128_d2 h_S_),
    StableHlo.binary main_arg4 main_call10_v5 main_call10_v13 (fun x i => Host.gather gather_S2_S4096x128x1_S4096x128_n_0_n_n_0_2_1 x i),
    StableHlo.nullary main_call10_cst (constant S_ .f32 0x7FC00000#32),
    StableHlo.unary main_call10_cst main_call10_v14 (broadcastInDim S4096x128 ![] bcast_S_S4096x128),
    StableHlo.ternary main_call10_v12 main_call10_v13 main_call10_v14 main_v60 select ] := by
  simp only [fn_take_3.body, fn_where.body, main_call10, main_call10_call0, TRef.nullary, TRef.unary, TRef.binary, TRef.ternary, cast_eq, seq,
    bind_assoc, pure_bind]
  rfl

/-- The operations of the first part of the program. -/
abbrev firstOps : List (HloOp τ sig (Elt F)) :=
  keys ++ (highCode ++ (highEntry ++ (highRest ++ (lowCode ++ (lowEntry ++ (lowRest ++ (query ++ (highAgain ++
    highScore))))))))

/-- The operations of the second part of the program. -/
abbrev secondOps : List (HloOp τ sig (Elt F)) := highScaled ++ (lowAgain ++ score)

/-- All operations in order. -/
abbrev allOps : List (HloOp τ sig (Elt F)) := firstOps ++ secondOps

/-- The first part is its operations in order. -/
theorem first_eq (c : Dev nD) : main_part0 (F := F) c = seq firstOps := by
  simp only [main_part0, call0_eq, call1_eq, call2_eq, call3_eq, call4_eq, call5_eq, call6_eq, call7_eq, call8_eq, call9_eq, call10_eq]
  unfold firstOps keys highCode highEntry highRest lowCode lowEntry lowRest query highAgain highScore
  simp only [seq, bind_assoc, pure_bind, List.cons_append, List.nil_append, bind_pure_unit]

/-- The second part is its operations in order. -/
theorem second_eq (c : Dev nD) : main_part1 (F := F) c = seq secondOps := by
  simp only [main_part1, call0_eq, call1_eq, call2_eq, call3_eq, call4_eq, call5_eq, call6_eq, call7_eq, call8_eq, call9_eq, call10_eq]
  unfold secondOps highScaled lowAgain score
  simp only [seq, bind_assoc, pure_bind, List.cons_append, List.nil_append, bind_pure_unit]

/-- The program is these operations in order. -/
theorem main_eq (c : Dev nD) : main (F := F) c = seq allOps := by
  rw [seq_append, ← first_eq c, ← second_eq c]
  rfl

/-- All operations touch only buffers of the device. -/
theorem allOps_sub : (allOps (F := F)).Forall fun op => op.bufs ⊆ tcRefs τ sig :=
  List.forall_append.mpr ⟨List.forall_append.mpr ⟨keys_sub, List.forall_append.mpr ⟨highCode_sub,
    List.forall_append.mpr ⟨highEntry_sub, List.forall_append.mpr ⟨highRest_sub, List.forall_append.mpr ⟨lowCode_sub,
    List.forall_append.mpr ⟨lowEntry_sub, List.forall_append.mpr ⟨lowRest_sub, List.forall_append.mpr ⟨query_sub,
    List.forall_append.mpr ⟨highAgain_sub, highScore_sub⟩⟩⟩⟩⟩⟩⟩⟩⟩,
    List.forall_append.mpr ⟨highScaled_sub, List.forall_append.mpr ⟨lowAgain_sub, score_sub⟩⟩⟩

/-- No buffer belongs to a scope. -/
theorem scopedRefs_eq : (Finset.univ.filter fun b : Ref sig .tc => b.isScoped) = ∅ := by decide

/-- No semaphore belongs to a scope. -/
theorem scopedSems_eq : (Finset.univ.filter fun sm : SemLoc sig => sm.isScoped .tc) = ∅ := by decide

end Cert.ReferenceIdeal.Hand
-- ==== Proof.RefTerm.lean ====
module

public import proofs.«01_k».proof.Proof.Gen.ReferenceIdeal

@[expose] public section

noncomputable section

/-!
What the reference program computes, as named steps.
-/

namespace Cert.ReferenceIdeal.Hand

open Cert.ReferenceIdeal.Gen
open Idealize.ShloMosaic Idealize.ShloMosaic.TcCoe

variable {F : FTy → Type} [FloatOps F]

/-- The norm of each key. -/
def keyNorm (k : FVec F S4096x256 .f32) : FVec F S4096 .f32 :=
  Host.sqrt (Host.reduceAdd (mulf k k) (constant S_ .f32 0x00000000#32) reducesTo_S4096x256_S4096_d1 h_S_)

/-- Each key over its norm and the small constant. -/
def unitKey (k : FVec F S4096x256 .f32) (n : FVec F S4096 .f32) : FVec F S4096x256 .f32 :=
  Host.divf k (broadcastInDim S4096x256 ![0, 1] bcast_S4096x1_S4096x256_0_1
    (addf (broadcastInDim S4096x1 ![0] bcast_S4096_S4096x1_0 n)
      (broadcastInDim S4096x1 ![] bcast_S_S4096x1 (constant S_ .f32 0x322BCC77#32))))

/-- The rows of `x` rotated. -/
def turned (x : FVec F S4096x256 .f32) (P : FVec F S256x256 .f32) : FVec F S4096x256 .f32 :=
  Host.dotGeneral dot_S4096x256_S256x256_S4096x256_1_0_0_1_n_n none x
    (transpose S256x256 [1, 0] P transposes_S256x256_S256x256_1_0)

/-- The first 128 columns. -/
def upperHalf (y : FVec F S4096x256 .f32) : FVec F S4096x128 .f32 :=
  extractStridedSlice S4096x128 ![0, 0] y slices_S4096x256_S4096x128_0_0

/-- The last 128 columns. -/
def lowerHalf (y : FVec F S4096x256 .f32) : FVec F S4096x128 .f32 :=
  extractStridedSlice S4096x128 ![0, 128] y slices_S4096x256_S4096x128_0_128

/-- The differences of every entry to the four centroids. -/
def gaps4 (y : FVec F S4096x128 .f32) (c : FVec F S4 .f32) : FVec F S4096x128x4 .f32 :=
  subf (broadcastInDim S4096x128x4 ![0, 1, 2] bcast_S4096x128x1_S4096x128x4_0_1_2
      (broadcastInDim S4096x128x1 ![0, 1] bcast_S4096x128_S4096x128x1_0_1 y))
    (broadcastInDim S4096x128x4 ![0, 1, 2] bcast_S1x1x4_S4096x128x4_0_1_2
      (broadcastInDim S1x1x4 ![2] bcast_S4_S1x1x4_2 c))

/-- The differences of every entry to the two centroids. -/
def gaps2 (y : FVec F S4096x128 .f32) (c : FVec F S2 .f32) : FVec F S4096x128x2 .f32 :=
  subf (broadcastInDim S4096x128x2 ![0, 1, 2] bcast_S4096x128x1_S4096x128x2_0_1_2
      (broadcastInDim S4096x128x1 ![0, 1] bcast_S4096x128_S4096x128x1_0_1 y))
    (broadcastInDim S4096x128x2 ![0, 1, 2] bcast_S1x1x2_S4096x128x2_0_1_2
      (broadcastInDim S1x1x2 ![2] bcast_S2_S1x1x2_2 c))

/-- The first position of the least of four. -/
def least4 (x : FVec F S4096x128x4 .f32) : IVec S4096x128 32 := fun j =>
  (Host.argReduce reducer_argmin_f32_i32 x (iotaInDim S4096x128x4 32 2) (constant S_ .f32 0x7F800000#32)
    (constantI S_ 32 0#32) reducesTo_S4096x128x4_S4096x128_d2 h_S_ j).2

/-- The first position of the least of two. -/
def least2 (x : FVec F S4096x128x2 .f32) : IVec S4096x128 32 := fun j =>
  (Host.argReduce reducer_argmin_f32_i32 x (iotaInDim S4096x128x2 32 2) (constant S_ .f32 0x7F800000#32)
    (constantI S_ 32 0#32) reducesTo_S4096x128x2_S4096x128_d2 h_S_ j).2

/-- Which of the four centroids is nearest. -/
def code4 (y : FVec F S4096x128 .f32) (c : FVec F S4 .f32) : IVec S4096x128 32 := least4 (mulf (gaps4 y c) (gaps4 y c))

/-- Which of the two centroids is nearest. -/
def code2 (y : FVec F S4096x128 .f32) (c : FVec F S2 .f32) : IVec S4096x128 32 := least2 (mulf (gaps2 y c) (gaps2 y c))

/-- The positions, a negative one counted from the end of `n`, as a column of start indices. -/
def starts (n : BitVec 32) (ix : IVec S4096x128 32) : IVec S4096x128x1 32 :=
  broadcastInDim S4096x128x1 ![0, 1] bcast_S4096x128_S4096x128x1_0_1
    (select (cmpi .slt ix (broadcastInDim S4096x128 ![] bcast_S_S4096x128 (constantI S_ 32 0#32)))
      (addi ix (broadcastInDim S4096x128 ![] bcast_S_S4096x128 (constantI S_ 32 n))) ix)

/-- Whether the start indices lie between zero and `n`. -/
def inRange (n : BitVec 32) (i : IVec S4096x128x1 32) : IVec S4096x128 1 :=
  Host.reduce IntOp.andi
    (andi (cmpi .sge i (broadcastInDim S4096x128x1 ![] bcast_S_S4096x128x1 (constantI S_ 32 0#32)))
      (cmpi .sle i (broadcastInDim S4096x128x1 ![0, 1, 2] bcast_S1x1x1_S4096x128x1_0_1_2
        (broadcastInDim S1x1x1 ![2] bcast_S1_S1x1x1_2 (constantI S1 32 n)))))
    (constantI S_ 1 1#1) reducesTo_S4096x128x1_S4096x128_d2 h_S_

/-- The centroids at the positions: one of four each. -/
def take4 (c : FVec F S4 .f32) (ix : IVec S4096x128 32) : FVec F S4096x128 .f32 :=
  select (inRange 3#32 (starts 4#32 ix))
    (Host.gather gather_S4_S4096x128x1_S4096x128_n_0_n_n_0_2_1 c (starts 4#32 ix))
    (broadcastInDim S4096x128 ![] bcast_S_S4096x128 (constant S_ .f32 0x7FC00000#32))

/-- The centroids at the positions: one of two each. -/
def take2 (c : FVec F S2 .f32) (ix : IVec S4096x128 32) : FVec F S4096x128 .f32 :=
  select (inRange 1#32 (starts 2#32 ix))
    (Host.gather gather_S2_S4096x128x1_S4096x128_n_0_n_n_0_2_1 c (starts 2#32 ix))
    (broadcastInDim S4096x128 ![] bcast_S_S4096x128 (constant S_ .f32 0x7FC00000#32))

/-- The norm of each row of what is left. -/
def restNorm (r : FVec F S4096x128 .f32) : FVec F S4096 .f32 :=
  Host.sqrt (Host.reduceAdd (mulf r r) (constant S_ .f32 0x00000000#32) reducesTo_S4096x128_S4096_d1 h_S_)

/-- The rows of `x` against the rows of the sketching matrix. -/
def sketched (x : FVec F S4096x128 .f32) (S : FVec F S128x128 .f32) : FVec F S4096x128 .f32 :=
  Host.dotGeneral dot_S4096x128_S128x128_S4096x128_1_0_0_1_n_n none x
    (transpose S128x128 [1, 0] S transposes_S128x128_S128x128_1_0)

/-- One where an entry is not negative, minus one elsewhere. -/
def signs (x : FVec F S4096x128 .f32) : FVec F S4096x128 .f32 :=
  select (cmpf .oge x (broadcastInDim S4096x128 ![] bcast_S_S4096x128 (constant S_ .f32 0x00000000#32)))
    (broadcastInDim S4096x128 ![] bcast_S_S4096x128 (constant S_ .f32 0x3F800000#32))
    (broadcastInDim S4096x128 ![] bcast_S_S4096x128 (constant S_ .f32 0xBF800000#32))

/-- Every row of `q` against every row of `m`. -/
def against (q m : FVec F S4096x128 .f32) : FVec F S4096x4096 .f32 :=
  Host.dotGeneral dot_S4096x128_S128x4096_S4096x4096_1_0_0_1_n_n none q
    (transpose S128x4096 [1, 0] m transposes_S4096x128_S128x4096_1_0)

/-- The square root in the factor of the sketch. -/
def root : FVec F S_ .f32 := Host.sqrt (constant S_ .f32 0x3FC90FDB#32)

/-- One number for each column, over all rows. -/
def perColumn (n : FVec F S4096 .f32) : FVec F S4096x4096 .f32 :=
  broadcastInDim S4096x4096 ![0, 1] bcast_S1x4096_S4096x4096_0_1
    (broadcastInDim S1x4096 ![1] bcast_S4096_S1x4096_1 n)

/-- One half of the score: the product with the centroids, and the scaled product of the sketches. -/
def halfScore (z b : FVec F S4096x4096 .f32) (n : FVec F S4096 .f32) (k : FVec F S_ .f32) : FVec F S4096x4096 .f32 :=
  addf z (mulf (mulf b (broadcastInDim S4096x4096 ![] bcast_S_S4096x4096
    (id (Host.divf k (constant S_ .f32 0x43000000#32))))) (perColumn n))

/-- The upper half of the score, of the rotated queries `y` and keys `w`. -/
def upperScore (c : FVec F S4 .f32) (S : FVec F S128x128 .f32) (y w : FVec F S4096x128 .f32) : FVec F S4096x4096 .f32 :=
  halfScore (against y (take4 c (code4 w c)))
    (against (sketched y S) (signs (sketched (subf w (take4 c (code4 w c))) S)))
    (restNorm (subf w (take4 c (code4 w c)))) root

/-- The lower half of the score, of the rotated queries `y` and keys `w`. -/
def lowerScore (c : FVec F S2 .f32) (S : FVec F S128x128 .f32) (y w : FVec F S4096x128 .f32) : FVec F S4096x4096 .f32 :=
  halfScore (against y (take2 c (code2 w c)))
    (against (sketched y S) (signs (sketched (subf w (take2 c (code2 w c))) S)))
    (restNorm (subf w (take2 c (code2 w c)))) root

/-- The whole score. -/
def scoreOf (q k : FVec F S4096x256 .f32) (P : FVec F S256x256 .f32) (c : FVec F S4 .f32) (d : FVec F S2 .f32)
    (S T : FVec F S128x128 .f32) : FVec F S4096x4096 .f32 :=
  mulf (addf (upperScore c S (upperHalf (turned q P)) (upperHalf (turned (unitKey k (keyNorm k)) P)))
    (lowerScore d T (lowerHalf (turned q P)) (lowerHalf (turned (unitKey k (keyNorm k)) P)))) (perColumn (keyNorm k))

end Cert.ReferenceIdeal.Hand
-- ==== Proof.RefRun.lean ====
module

public import proofs.«01_k».proof.Proof.RefOps
public import proofs.«01_k».proof.Proof.RefTerm

@[expose] public section

set_option maxRecDepth 200000

noncomputable section

/-!
The run of the reference: what each window leaves in the buffers read later, and the whole program's result.
-/

namespace Cert.ReferenceIdeal.Hand

open Cert.ReferenceIdeal.Gen
open Idealize.ShloMosaic Idealize.ShloMosaic.TcCoe Idealize.ShloMosaic.StableHlo Idealize.SL.Sem

variable {F : FTy → Type} [FloatOps F]

variable (V : Valuation τ sig (Elt F))

/-- A buffer which this window does not write is kept. -/
theorem keys_keeps {r : Ref sig .tc} (hr : r ∉ [main_call0_v0, main_call0_cst, main_call0_v1, main_v0, main_v1, main_cst, main_v2, main_v3, main_v4, main_v5, main_v6, main_v7, main_v8, main_v9]) :
    after keys V (no_index (Proc.devRef .tc r)) = V (Proc.devRef .tc r) :=
  after_of_writes_sub _ V (forall_writes_sub_of_map rfl) hr

/-- A buffer which this window does not write is kept. -/
theorem highCode_keeps {r : Ref sig .tc} (hr : r ∉ [main_v10, main_v11, main_v12, main_v13, main_v14, main_v15, main_call1_v0, main_call1_cst, main_call1_c, main_call1_v1_0, main_v16]) :
    after highCode V (no_index (Proc.devRef .tc r)) = V (Proc.devRef .tc r) :=
  after_of_writes_sub _ V (forall_writes_sub_of_map rfl) hr

/-- A buffer which this window does not write is kept. -/
theorem highEntry_keeps {r : Ref sig .tc} (hr : r ∉ [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v17]) :
    after highEntry V (no_index (Proc.devRef .tc r)) = V (Proc.devRef .tc r) :=
  after_of_writes_sub _ V (forall_writes_sub_of_map rfl) hr

/-- A buffer which this window does not write is kept. -/
theorem highRest_keeps {r : Ref sig .tc} (hr : r ∉ [main_v18, main_call3_v0, main_call3_cst, main_call3_v1, main_v19, main_v20, main_v21, main_cst_0, main_v22, main_v23, main_cst_1, main_cst_2, main_call4_v0, main_call4_v1, main_v24]) :
    after highRest V (no_index (Proc.devRef .tc r)) = V (Proc.devRef .tc r) :=
  after_of_writes_sub _ V (forall_writes_sub_of_map rfl) hr

/-- A buffer which this window does not write is kept. -/
theorem lowCode_keeps {r : Ref sig .tc} (hr : r ∉ [main_v25, main_v26, main_v27, main_v28, main_v29, main_v30, main_call5_v0, main_call5_cst, main_call5_c, main_call5_v1_0, main_v31]) :
    after lowCode V (no_index (Proc.devRef .tc r)) = V (Proc.devRef .tc r) :=
  after_of_writes_sub _ V (forall_writes_sub_of_map rfl) hr

/-- A buffer which this window does not write is kept. -/
theorem lowEntry_keeps {r : Ref sig .tc} (hr : r ∉ [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v32]) :
    after lowEntry V (no_index (Proc.devRef .tc r)) = V (Proc.devRef .tc r) :=
  after_of_writes_sub _ V (forall_writes_sub_of_map rfl) hr

/-- A buffer which this window does not write is kept. -/
theorem lowRest_keeps {r : Ref sig .tc} (hr : r ∉ [main_v33, main_call7_v0, main_call7_cst, main_call7_v1, main_v34, main_v35, main_v36, main_cst_3, main_v37, main_v38, main_cst_4, main_cst_5, main_call8_v0, main_call8_v1, main_v39]) :
    after lowRest V (no_index (Proc.devRef .tc r)) = V (Proc.devRef .tc r) :=
  after_of_writes_sub _ V (forall_writes_sub_of_map rfl) hr

/-- A buffer which this window does not write is kept. -/
theorem query_keeps {r : Ref sig .tc} (hr : r ∉ [main_v40, main_v41, main_v42, main_v43]) :
    after query V (no_index (Proc.devRef .tc r)) = V (Proc.devRef .tc r) :=
  after_of_writes_sub _ V (forall_writes_sub_of_map rfl) hr

/-- A buffer which this window does not write is kept. -/
theorem highAgain_keeps {r : Ref sig .tc} (hr : r ∉ [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v44]) :
    after highAgain V (no_index (Proc.devRef .tc r)) = V (Proc.devRef .tc r) :=
  after_of_writes_sub _ V (forall_writes_sub_of_map rfl) hr

/-- A buffer which this window does not write is kept. -/
theorem highScore_keeps {r : Ref sig .tc} (hr : r ∉ [main_v45, main_v46, main_v47, main_v48, main_v49, main_v50, main_cst_6, main_v51]) :
    after highScore V (no_index (Proc.devRef .tc r)) = V (Proc.devRef .tc r) :=
  after_of_writes_sub _ V (forall_writes_sub_of_map rfl) hr

/-- A buffer which this window does not write is kept. -/
theorem highScaled_keeps {r : Ref sig .tc} (hr : r ∉ [main_cst_7, main_v52, main_v53, main_v54, main_v55, main_v56, main_v57, main_v58, main_v59]) :
    after highScaled V (no_index (Proc.devRef .tc r)) = V (Proc.devRef .tc r) :=
  after_of_writes_sub _ V (forall_writes_sub_of_map rfl) hr

/-- A buffer which this window does not write is kept. -/
theorem lowAgain_keeps {r : Ref sig .tc} (hr : r ∉ [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v60]) :
    after lowAgain V (no_index (Proc.devRef .tc r)) = V (Proc.devRef .tc r) :=
  after_of_writes_sub _ V (forall_writes_sub_of_map rfl) hr

/-- A buffer which this window does not write is kept. -/
theorem score_keeps {r : Ref sig .tc} (hr : r ∉ [main_v61, main_v62, main_v63, main_v64, main_v65, main_v66, main_cst_8, main_v67, main_cst_9, main_v68, main_v69, main_v70, main_v71, main_v72, main_v73, main_v74, main_v75, main_v76, main_v77, main_v78, main_v79]) :
    after score V (no_index (Proc.devRef .tc r)) = V (Proc.devRef .tc r) :=
  after_of_writes_sub _ V (forall_writes_sub_of_map rfl) hr

theorem keys_v0 : after keys V (no_index (Proc.devRef .tc main_v0)) = keyNorm (V (Proc.devRef .tc main_arg1)) := by
  unfold keys
  after_results_simp
  rfl

theorem keys_v8 : after keys V (no_index (Proc.devRef .tc main_v8)) = upperHalf (turned (unitKey (V (Proc.devRef .tc main_arg1)) (keyNorm (V (Proc.devRef .tc main_arg1)))) (V (Proc.devRef .tc main_arg2))) := by
  unfold keys
  after_results_simp
  rfl

theorem keys_v9 : after keys V (no_index (Proc.devRef .tc main_v9)) = lowerHalf (turned (unitKey (V (Proc.devRef .tc main_arg1)) (keyNorm (V (Proc.devRef .tc main_arg1)))) (V (Proc.devRef .tc main_arg2))) := by
  unfold keys
  after_results_simp
  rfl

theorem highCode_v16 : after highCode V (no_index (Proc.devRef .tc main_v16)) = code4 (V (Proc.devRef .tc main_v8)) (V (Proc.devRef .tc main_arg3)) := by
  unfold highCode
  after_results_simp
  rfl

theorem highEntry_v17 : after highEntry V (no_index (Proc.devRef .tc main_v17)) = take4 (V (Proc.devRef .tc main_arg3)) (V (Proc.devRef .tc main_v16)) := by
  unfold highEntry
  after_results_simp
  rfl

theorem highRest_v19 : after highRest V (no_index (Proc.devRef .tc main_v19)) = restNorm (subf (V (Proc.devRef .tc main_v8)) (V (Proc.devRef .tc main_v17))) := by
  unfold highRest
  after_results_simp
  rfl

theorem highRest_v24 : after highRest V (no_index (Proc.devRef .tc main_v24)) = signs (sketched (subf (V (Proc.devRef .tc main_v8)) (V (Proc.devRef .tc main_v17))) (V (Proc.devRef .tc main_arg5))) := by
  unfold highRest
  after_results_simp
  rfl

theorem lowCode_v31 : after lowCode V (no_index (Proc.devRef .tc main_v31)) = code2 (V (Proc.devRef .tc main_v9)) (V (Proc.devRef .tc main_arg4)) := by
  unfold lowCode
  after_results_simp
  rfl

theorem lowEntry_v32 : after lowEntry V (no_index (Proc.devRef .tc main_v32)) = take2 (V (Proc.devRef .tc main_arg4)) (V (Proc.devRef .tc main_v31)) := by
  unfold lowEntry
  after_results_simp
  rfl

theorem lowRest_v34 : after lowRest V (no_index (Proc.devRef .tc main_v34)) = restNorm (subf (V (Proc.devRef .tc main_v9)) (V (Proc.devRef .tc main_v32))) := by
  unfold lowRest
  after_results_simp
  rfl

theorem lowRest_v39 : after lowRest V (no_index (Proc.devRef .tc main_v39)) = signs (sketched (subf (V (Proc.devRef .tc main_v9)) (V (Proc.devRef .tc main_v32))) (V (Proc.devRef .tc main_arg6))) := by
  unfold lowRest
  after_results_simp
  rfl

theorem query_v42 : after query V (no_index (Proc.devRef .tc main_v42)) = upperHalf (turned (V (Proc.devRef .tc main_arg0)) (V (Proc.devRef .tc main_arg2))) := by
  unfold query
  after_results_simp
  rfl

theorem query_v43 : after query V (no_index (Proc.devRef .tc main_v43)) = lowerHalf (turned (V (Proc.devRef .tc main_arg0)) (V (Proc.devRef .tc main_arg2))) := by
  unfold query
  after_results_simp
  rfl

theorem highAgain_v44 : after highAgain V (no_index (Proc.devRef .tc main_v44)) = take4 (V (Proc.devRef .tc main_arg3)) (V (Proc.devRef .tc main_v16)) := by
  unfold highAgain
  after_results_simp
  rfl

theorem highScore_v46 : after highScore V (no_index (Proc.devRef .tc main_v46)) = against (V (Proc.devRef .tc main_v42)) (V (Proc.devRef .tc main_v44)) := by
  unfold highScore
  after_results_simp
  rfl

theorem highScore_v50 : after highScore V (no_index (Proc.devRef .tc main_v50)) = against (sketched (V (Proc.devRef .tc main_v42)) (V (Proc.devRef .tc main_arg5))) (V (Proc.devRef .tc main_v24)) := by
  unfold highScore
  after_results_simp
  rfl

theorem highScore_v51 : after highScore V (no_index (Proc.devRef .tc main_v51)) = root := by
  unfold highScore
  after_results_simp
  rfl

theorem highScaled_v59 : after highScaled V (no_index (Proc.devRef .tc main_v59)) = halfScore (V (Proc.devRef .tc main_v46)) (V (Proc.devRef .tc main_v50)) (V (Proc.devRef .tc main_v19)) (V (Proc.devRef .tc main_v51)) := by
  unfold highScaled
  after_results_simp
  rfl

theorem lowAgain_v60 : after lowAgain V (no_index (Proc.devRef .tc main_v60)) = take2 (V (Proc.devRef .tc main_arg4)) (V (Proc.devRef .tc main_v31)) := by
  unfold lowAgain
  after_results_simp
  rfl

theorem score_v79 : after score V (no_index (Proc.devRef .tc main_v79)) = mulf (addf (V (Proc.devRef .tc main_v59)) (halfScore (against (V (Proc.devRef .tc main_v43)) (V (Proc.devRef .tc main_v60))) (against (sketched (V (Proc.devRef .tc main_v43)) (V (Proc.devRef .tc main_arg6))) (V (Proc.devRef .tc main_v39))) (V (Proc.devRef .tc main_v34)) root)) (perColumn (V (Proc.devRef .tc main_v0))) := by
  unfold score
  after_results_simp
  rfl

theorem after_two (a b : List (HloOp τ sig (Elt F))) : after (a ++ b) V = after b (after a V) := by
  induction a generalizing V with
  | nil => rfl
  | cons o a ih => rw [List.cons_append, after_cons, after_cons, ih]

/-- After all operations the result buffer holds the score of the arguments. -/
theorem all_score : after allOps V (Proc.devRef .tc main_v79)
    = scoreOf (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) := by
  simp (disch := decide) only [allOps, firstOps, secondOps, after_two, keys_v0, keys_v8, keys_v9, highCode_v16, highEntry_v17, highRest_v19,
    highRest_v24, lowCode_v31, lowEntry_v32, lowRest_v34, lowRest_v39, query_v42,
    query_v43, highAgain_v44, highScore_v46, highScore_v50, highScore_v51, highScaled_v59,
    lowAgain_v60, score_v79,
    keys_keeps, highCode_keeps, highEntry_keeps, highRest_keeps, lowCode_keeps,
    lowEntry_keeps, lowRest_keeps, query_keeps, highAgain_keeps, highScore_keeps,
    highScaled_keeps, lowAgain_keeps, score_keeps]
  rfl

/-- An argument is kept by all operations. -/
theorem all_arg0 : after allOps V (Proc.devRef .tc main_arg0) = V (Proc.devRef .tc main_arg0) := by
  simp (disch := decide) only [allOps, firstOps, secondOps, after_two,
    keys_keeps, highCode_keeps, highEntry_keeps, highRest_keeps, lowCode_keeps,
    lowEntry_keeps, lowRest_keeps, query_keeps, highAgain_keeps, highScore_keeps,
    highScaled_keeps, lowAgain_keeps, score_keeps]

/-- An argument is kept by all operations. -/
theorem all_arg1 : after allOps V (Proc.devRef .tc main_arg1) = V (Proc.devRef .tc main_arg1) := by
  simp (disch := decide) only [allOps, firstOps, secondOps, after_two,
    keys_keeps, highCode_keeps, highEntry_keeps, highRest_keeps, lowCode_keeps,
    lowEntry_keeps, lowRest_keeps, query_keeps, highAgain_keeps, highScore_keeps,
    highScaled_keeps, lowAgain_keeps, score_keeps]

/-- An argument is kept by all operations. -/
theorem all_arg2 : after allOps V (Proc.devRef .tc main_arg2) = V (Proc.devRef .tc main_arg2) := by
  simp (disch := decide) only [allOps, firstOps, secondOps, after_two,
    keys_keeps, highCode_keeps, highEntry_keeps, highRest_keeps, lowCode_keeps,
    lowEntry_keeps, lowRest_keeps, query_keeps, highAgain_keeps, highScore_keeps,
    highScaled_keeps, lowAgain_keeps, score_keeps]

/-- An argument is kept by all operations. -/
theorem all_arg3 : after allOps V (Proc.devRef .tc main_arg3) = V (Proc.devRef .tc main_arg3) := by
  simp (disch := decide) only [allOps, firstOps, secondOps, after_two,
    keys_keeps, highCode_keeps, highEntry_keeps, highRest_keeps, lowCode_keeps,
    lowEntry_keeps, lowRest_keeps, query_keeps, highAgain_keeps, highScore_keeps,
    highScaled_keeps, lowAgain_keeps, score_keeps]

/-- An argument is kept by all operations. -/
theorem all_arg4 : after allOps V (Proc.devRef .tc main_arg4) = V (Proc.devRef .tc main_arg4) := by
  simp (disch := decide) only [allOps, firstOps, secondOps, after_two,
    keys_keeps, highCode_keeps, highEntry_keeps, highRest_keeps, lowCode_keeps,
    lowEntry_keeps, lowRest_keeps, query_keeps, highAgain_keeps, highScore_keeps,
    highScaled_keeps, lowAgain_keeps, score_keeps]

/-- An argument is kept by all operations. -/
theorem all_arg5 : after allOps V (Proc.devRef .tc main_arg5) = V (Proc.devRef .tc main_arg5) := by
  simp (disch := decide) only [allOps, firstOps, secondOps, after_two,
    keys_keeps, highCode_keeps, highEntry_keeps, highRest_keeps, lowCode_keeps,
    lowEntry_keeps, lowRest_keeps, query_keeps, highAgain_keeps, highScore_keeps,
    highScaled_keeps, lowAgain_keeps, score_keeps]

/-- An argument is kept by all operations. -/
theorem all_arg6 : after allOps V (Proc.devRef .tc main_arg6) = V (Proc.devRef .tc main_arg6) := by
  simp (disch := decide) only [allOps, firstOps, secondOps, after_two,
    keys_keeps, highCode_keeps, highEntry_keeps, highRest_keeps, lowCode_keeps,
    lowEntry_keeps, lowRest_keeps, query_keeps, highAgain_keeps, highScore_keeps,
    highScaled_keeps, lowAgain_keeps, score_keeps]

/-- Every fair run ends with the result buffer at the score of the arguments, the arguments unchanged and no semaphore
    raised. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v79) = scoreOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
      ∧ r.2.sem = fun _ => 0 :=
  (θ_run defs _ _).mono (fun r h => ⟨fun c => ⟨(h c main_v79).trans (all_score _), (h c main_arg0).trans (all_arg0 _), (h c main_arg1).trans (all_arg1 _), (h c main_arg2).trans (all_arg2 _), (h c main_arg3).trans (all_arg3 _), (h c main_arg4).trans (all_arg4 _), (h c main_arg5).trans (all_arg5 _), (h c main_arg6).trans (all_arg6 _)⟩,
      sem_eq_zero_of_no_sems (by decide) r.2⟩)
    (run_seq scopedRefs_eq scopedSems_eq defs main (fun _ => allOps) main_eq (fun _ => allOps_sub) m ρ)

end Cert.ReferenceIdeal.Hand
-- ==== Proof.Nearest.lean ====
module

public import proofs.«01_k».proof.Proof.Gen.ReferenceIdeal
public import proofs.«01_k».proof.Proof.Real
public import Idealize.ShloMosaic.Lib.Pointwise
public import Idealize.ShloMosaic.PureOps.Reduce
public import Idealize.ShloMosaic.PureOps.Ideal.Laws

@[expose] public section

noncomputable section

/-!
The nearest centroid: what the reference's search for the least squared distance finds, and that comparing with the
midpoints of ascending centroids finds the same one.
-/

namespace Cert.Math

/-- Of two centroids the lower one is strictly farther only above the midpoint. -/
theorem above_mid {y u v : ℝ} (huv : u ≤ v) (h : (y - v) * (y - v) < (y - u) * (y - u)) : (u + v) * (1 / 2) < y := by
  nlinarith

/-- Of two centroids the lower one is at least as near only up to the midpoint, or they are equal. -/
theorem below_mid {y u v : ℝ} (huv : u ≤ v) (h : (y - u) * (y - u) ≤ (y - v) * (y - v)) : u = v ∨ y ≤ (u + v) * (1 / 2) := by
  rcases huv.eq_or_lt with e | e
  · exact Or.inl e
  · right; nlinarith

/-- A first nearest centroid: nearest, and strictly nearer than every earlier one. -/
def IsFirst {n : ℕ} (C : Fin n → ℝ) (y : ℝ) (b : Fin n) : Prop :=
  (∀ b', (y - C b) * (y - C b) ≤ (y - C b') * (y - C b')) ∧ ∀ b' < b, (y - C b) * (y - C b) < (y - C b') * (y - C b')

/-- The first nearest of four ascending centroids is the one the midpoints pick. -/
theorem first4 {C : Fin 4 → ℝ} (h01 : C 0 ≤ C 1) (h12 : C 1 ≤ C 2) (h23 : C 2 ≤ C 3) {y : ℝ} {b : Fin 4}
    (h : IsFirst C y b) : C b = pick4 C y := by
  obtain ⟨hl, hs⟩ := h
  have h02 := h01.trans h12
  have h13 := h12.trans h23
  have h03 := h02.trans h23
  unfold pick4
  match b with
  | 0 =>
    rcases below_mid h01 (hl 1) with a | a <;> rcases below_mid h02 (hl 2) with e | e <;>
      rcases below_mid h03 (hl 3) with f | f <;> split_ifs <;> linarith
  | 1 =>
    have a := above_mid h01 (hs 0 (by decide))
    rcases below_mid h12 (hl 2) with e | e <;> rcases below_mid h13 (hl 3) with f | f <;> split_ifs <;> linarith
  | 2 =>
    have a := above_mid h02 (hs 0 (by decide))
    have e := above_mid h12 (hs 1 (by decide))
    rcases below_mid h23 (hl 3) with f | f <;> split_ifs <;> linarith
  | 3 =>
    have a := above_mid h03 (hs 0 (by decide))
    have e := above_mid h13 (hs 1 (by decide))
    have f := above_mid h23 (hs 2 (by decide))
    split_ifs <;> linarith

/-- The first nearest of two ascending centroids is the one the midpoint picks. -/
theorem first2 {C : Fin 2 → ℝ} (h01 : C 0 ≤ C 1) {y : ℝ} {b : Fin 2} (h : IsFirst C y b) : C b = pick2 C y := by
  obtain ⟨hl, hs⟩ := h
  unfold pick2
  match b with
  | 0 => rcases below_mid h01 (hl 1) with a | a <;> split_ifs <;> linarith
  | 1 =>
    have a := above_mid h01 (hs 0 (by decide))
    split_ifs <;> linarith

end Cert.Math

namespace Cert.ReferenceIdeal.Hand

open Cert.ReferenceIdeal.Gen Cert.Math
open Idealize.ShloMosaic Idealize.ShloMosaic.TcCoe

/-- The order of the search: a smaller value, or an equal one at a position not greater. -/
def Before (p q : EReal × BitVec 32) : Prop := p.1 < q.1 ∨ (p.1 = q.1 ∧ p.2.toInt ≤ q.2.toInt)

theorem Before.refl (p : EReal × BitVec 32) : Before p p := Or.inr ⟨rfl, le_refl _⟩

theorem Before.trans {p q r : EReal × BitVec 32} (h : Before p q) (k : Before q r) : Before p r := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- One step of the search keeps one of the two pairs. -/
theorem step_eq (a b : EReal × BitVec 32) : reducer_argmin_f32_i32 (F := Ideal) a b
    = if a.1 < b.1 ∨ (a.1 = b.1 ∧ a.2.slt b.2 = true) then a else b := by
  obtain ⟨a1, a2⟩ := a
  obtain ⟨b1, b2⟩ := b
  have h2 : FloatOps.cmpf (F := Ideal) (φ := .f32) .olt a1 b1 = BitVec.ofBool (decide (a1 < b1)) := rfl
  have h3 : FloatOps.cmpf (F := Ideal) (φ := .f32) .une a1 a1 = BitVec.ofBool (decide (a1 ≠ a1)) := rfl
  have h5 : FloatOps.cmpf (F := Ideal) (φ := .f32) .oeq a1 b1 = BitVec.ofBool (decide (a1 = b1)) := rfl
  have h6 : IntOp.cmpi .slt a2 b2 = BitVec.ofBool (a2.slt b2) := rfl
  unfold reducer_argmin_f32_i32
  simp only [h2, h3, h5, h6]
  by_cases p : a1 < b1
  · have q : a1 ≠ b1 := ne_of_lt p
    cases hs : a2.slt b2 <;> simp [p, q, IntOp.ori, IntOp.andi, Scalar.select]
  · by_cases q : a1 = b1
    · subst q
      cases hs : a2.slt b2 <;> simp [IntOp.ori, IntOp.andi, Scalar.select]
    · cases hs : a2.slt b2 <;> simp [p, q, IntOp.ori, IntOp.andi, Scalar.select]

/-- A step's result comes before both pairs and is one of them. -/
theorem step_before (a b : EReal × BitVec 32) : Before (reducer_argmin_f32_i32 (F := Ideal) a b) a
    ∧ Before (reducer_argmin_f32_i32 (F := Ideal) a b) b
    ∧ (reducer_argmin_f32_i32 (F := Ideal) a b = a ∨ reducer_argmin_f32_i32 (F := Ideal) a b = b) := by
  rw [step_eq]
  split_ifs with h
  · refine ⟨.refl _, ?_, Or.inl rfl⟩
    rcases h with h | ⟨h, h'⟩
    · exact Or.inl h
    · exact Or.inr ⟨h, (BitVec.slt_iff_toInt_lt.mp h').le⟩
  · refine ⟨?_, .refl _, Or.inr rfl⟩
    rw [not_or, not_and] at h
    rcases (not_lt.mp h.1).eq_or_lt with e | e
    · refine Or.inr ⟨e, ?_⟩
      have := h.2 e.symm
      rw [BitVec.slt_iff_toInt_lt] at this
      exact not_lt.mp this
    · exact Or.inl e

/-- The search over a list ends at a pair that comes before the first and before all of the list, and is one of them. -/
theorem search_before (l : List (EReal × BitVec 32)) : ∀ a, Before (l.foldl (reducer_argmin_f32_i32 (F := Ideal)) a) a
    ∧ (∀ q ∈ l, Before (l.foldl (reducer_argmin_f32_i32 (F := Ideal)) a) q)
    ∧ (l.foldl (reducer_argmin_f32_i32 (F := Ideal)) a = a ∨ l.foldl (reducer_argmin_f32_i32 (F := Ideal)) a ∈ l) := by
  induction l with
  | nil => exact fun a => ⟨.refl _, fun _ h => absurd h List.not_mem_nil, Or.inl rfl⟩
  | cons p l ih =>
    intro a
    obtain ⟨s1, s2, s3⟩ := step_before a p
    obtain ⟨i1, i2, i3⟩ := ih (reducer_argmin_f32_i32 (F := Ideal) a p)
    rw [List.foldl_cons]
    refine ⟨i1.trans s1, fun q hq => ?_, ?_⟩
    · rcases List.mem_cons.mp hq with rfl | hq
      · exact i1.trans s2
      · exact i2 q hq
    · rcases i3 with e | e
      · rcases s3 with f | f
        · exact Or.inl (e.trans f)
        · exact Or.inr (List.mem_cons.mpr (Or.inl (e.trans f)))
      · exact Or.inr (List.mem_cons_of_mem _ e)

/-- The search along the last axis, over real entries, finds the first least one. -/
theorem least_at {n0 n1 n : ℕ} (hn : 0 < n) (hb : n ≤ 1024) {x : FVec Ideal ⟨3, ![n0, n1, n]⟩ .f32} {X : Fin n → ℝ} {i : Fin n0}
    {c : Fin n1} (hx : ∀ b, x (ix3 i c b) = ((X b : ℝ) : EReal))
    (h : (⟨3, ![n0, n1, n]⟩ : Shape).ReducesTo [2] ⟨2, ![n0, n1]⟩) (hu : 0 < S_.numel) :
    ∃ b : Fin n, (Host.argReduce (reducer_argmin_f32_i32 (F := Ideal)) x (iotaInDim ⟨3, ![n0, n1, n]⟩ 32 2)
        (constant S_ .f32 0x7F800000#32) (constantI S_ 32 0#32) h hu (ix2 i c)).2 = BitVec.ofNat 32 b.val
      ∧ (∀ b', X b ≤ X b') ∧ ∀ b' < b, X b < X b' := by
  have hmem : ∀ p : EReal × BitVec 32, p ∈ Host.argReduceFiber x (iotaInDim ⟨3, ![n0, n1, n]⟩ 32 2) h (ix2 i c)
      ↔ ∃ b : Fin n, p = (((X b : ℝ) : EReal), BitVec.ofNat 32 b.val) := by
    intro p
    unfold Host.argReduceFiber
    rw [List.mem_map]
    constructor
    · rintro ⟨k, hk, rfl⟩
      have hk' := (List.mem_filter.mp hk).2
      obtain ⟨b, hb⟩ := (h.fiber_r3_a2 _ _).mp (of_decide_eq_true hk')
      refine ⟨b, ?_⟩
      rw [← hb]
      exact Prod.ext (hx b) rfl
    · rintro ⟨b, rfl⟩
      refine ⟨(⟨3, ![n0, n1, n]⟩ : Shape).rowMajor (ix3 i c b), ?_, ?_⟩
      · refine List.mem_filter.mpr ⟨List.mem_finRange _, decide_eq_true ?_⟩
        rw [Equiv.symm_apply_apply]
        exact (h.fiber_r3_a2 _ _).mpr ⟨b, rfl⟩
      · rw [Equiv.symm_apply_apply]
        exact Prod.ext (hx b) rfl
  have hint : ∀ b : Fin n, (BitVec.ofNat 32 b.val).toInt = (b.val : ℤ) := fun b => by
    have := b.isLt
    have ht : (BitVec.ofNat 32 b.val).toNat = b.val := by
      rw [BitVec.toNat_ofNat]; exact Nat.mod_eq_of_lt (by omega)
    rw [BitVec.toInt_eq_toNat_of_lt (by rw [ht]; omega), ht]
  rw [Ideal.argReduce_eq_reduce2, Host.reduce2_eq_foldl_fiber]
  obtain ⟨-, h2, h3⟩ := search_before (Host.argReduceFiber x (iotaInDim ⟨3, ![n0, n1, n]⟩ 32 2) h (ix2 i c))
    ((constant S_ .f32 0x7F800000#32 : FVec Ideal S_ .f32) (Shape.Idx.first hu), (constantI S_ 32 0#32) (Shape.Idx.first hu))
  generalize List.foldl _ _ _ = r at h2 h3 ⊢
  have htop : (constant S_ .f32 0x7F800000#32 : FVec Ideal S_ .f32) (Shape.Idx.first hu) = (⊤ : EReal) := ofBits_inf
  have hr : r ∈ Host.argReduceFiber x (iotaInDim ⟨3, ![n0, n1, n]⟩ 32 2) h (ix2 i c) := by
    rcases h3 with e | e
    · exfalso
      have h1 : r.1 = ⊤ := by rw [e]; exact htop
      rcases h2 _ ((hmem _).mpr ⟨⟨0, hn⟩, rfl⟩) with k | ⟨k, -⟩
      · rw [h1] at k; exact not_top_lt k
      · rw [h1] at k; exact EReal.coe_ne_top _ k.symm
    · exact e
  obtain ⟨b, rfl⟩ := (hmem r).mp hr
  have hall : ∀ b', X b < X b' ∨ (X b = X b' ∧ b ≤ b') := fun b' => by
    rcases h2 _ ((hmem _).mpr ⟨b', rfl⟩) with k | ⟨k, k'⟩
    · exact Or.inl (EReal.coe_lt_coe_iff.mp k)
    · refine Or.inr ⟨EReal.coe_eq_coe_iff.mp k, ?_⟩
      have : (BitVec.ofNat 32 b.val).toInt ≤ (BitVec.ofNat 32 b'.val).toInt := k'
      rw [hint, hint] at this
      exact Fin.le_def.mpr (by omega)
  refine ⟨b, rfl, fun b' => ?_, fun b' hlt => ?_⟩
  · rcases hall b' with k | ⟨k, -⟩
    · exact k.le
    · exact k.le
  · rcases hall b' with k | ⟨-, k⟩
    · exact k
    · exact absurd hlt (not_lt.mpr k)

end Cert.ReferenceIdeal.Hand
-- ==== Proof.RefValue.lean ====
module

public import proofs.«01_k».proof.Proof.RefTerm
public import proofs.«01_k».proof.Proof.Nearest
public import Idealize.ShloMosaic.Lib.ValueIdxCore

@[expose] public section

set_option maxRecDepth 16384
set_option maxHeartbeats 1600000

noncomputable section

/-!
The reference read entry by entry over real arguments with ascending centroids.
-/

namespace Cert.ReferenceIdeal.Hand

open Cert.ReferenceIdeal.Gen Cert.Math
open Idealize.ShloMosaic Idealize.ShloMosaic.TcCoe

/-! ## Keys, rotation and halves -/

section
variable {k : FVec Ideal S4096x256 .f32} {K : Fin 4096 → Fin 256 → ℝ}

/-- The norms of the keys. -/
theorem keyNorm_at (hk : ∀ r a, k (ix2 r a) = ((K r a : ℝ) : EReal)) (r : Fin 4096) :
    keyNorm k (ix1 r) = ((len (K r) : ℝ) : EReal) := by
  pointwise [keyNorm]
  simp only [hk, ← EReal.coe_mul, coe_sum, sqrt_squares]
  rfl

/-- The keys over their norms. -/
theorem unitKey_at (hk : ∀ r a, k (ix2 r a) = ((K r a : ℝ) : EReal)) (r : Fin 4096) (a : Fin 256) :
    unitKey k (keyNorm k) (ix2 r a) = ((unit (K r) a : ℝ) : EReal) := by
  pointwise [unitKey]
  rw [keyNorm_at hk, hk, ofBits_eps, ← EReal.coe_add, div_real (norm_add_eps_ne _)]
  rfl

variable {P : FVec Ideal S256x256 .f32} {R : Fin 256 → Fin 256 → ℝ}

/-- The upper half of rotated rows. -/
theorem upperHalf_at (hk : ∀ r a, k (ix2 r a) = ((K r a : ℝ) : EReal)) (hP : ∀ i a, P (ix2 i a) = ((R i a : ℝ) : EReal))
    (r : Fin 4096) (c : Fin 128) : upperHalf (turned k P) (ix2 r c) = ((turn (hi R) (K r) c : ℝ) : EReal) := by
  pointwise [upperHalf, turned]
  simp only [hk, hP, ← EReal.coe_mul, coe_sum]
  rfl

/-- The lower half of rotated rows. -/
theorem lowerHalf_at (hk : ∀ r a, k (ix2 r a) = ((K r a : ℝ) : EReal)) (hP : ∀ i a, P (ix2 i a) = ((R i a : ℝ) : EReal))
    (r : Fin 4096) (c : Fin 128) : lowerHalf (turned k P) (ix2 r c) = ((turn (lo R) (K r) c : ℝ) : EReal) := by
  pointwise [lowerHalf, turned]
  simp only [hk, hP, ← EReal.coe_mul, coe_sum]
  rfl

end

/-! ## Centroids -/

/-- A start index of a position that is not negative is that position. -/
theorem starts_at {n : ℕ} (hn : n ≤ 1024) (w : BitVec 32) {ix : IVec S4096x128 32} {r : Fin 4096} {c : Fin 128} (b : Fin n)
    (hb : ix (ix2 r c) = BitVec.ofNat 32 b.val) : starts w ix (ix3 r c 0) = BitVec.ofNat 32 b.val := by
  pointwise [starts]
  rw [hb]
  have hs : (BitVec.ofNat 32 b.val).slt 0#32 = false := by
    have := b.isLt
    have ht : (BitVec.ofNat 32 b.val).toNat = b.val := by
      rw [BitVec.toNat_ofNat]; exact Nat.mod_eq_of_lt (by omega)
    rw [BitVec.slt_eq_decide, BitVec.toInt_eq_toNat_of_lt (by rw [ht]; omega), ht]
    simp
  have hc : IntOp.cmpi .slt (BitVec.ofNat 32 b.val) 0#32 = 0#1 := by
    show BitVec.ofBool ((BitVec.ofNat 32 b.val).slt 0#32) = _
    rw [hs]; rfl
  rw [hc]
  rfl

/-- A start index within the bounds is found to be. -/
theorem inRange_at {w : BitVec 32} {i : IVec S4096x128x1 32} {r : Fin 4096} {c : Fin 128} {v : BitVec 32}
    (hi : i (ix3 r c 0) = v) (h0 : IntOp.cmpi .sge v 0#32 = 1#1) (h1 : IntOp.cmpi .sle v w = 1#1) :
    inRange w i (ix2 r c) = 1#1 := by
  pointwise [inRange]
  simp [hi, h0, h1]
  rfl

/-- Where the start index of an entry lies. -/
theorem takeIdx_eq (r : Fin 4096) (c : Fin 128) : ValueIdx.takeIdx (ix2 r c) = ix3 r c (0 : Fin 1) := by
  funext a; apply Fin.ext
  match a with
  | ⟨0, _⟩ => rfl
  | ⟨1, _⟩ => rfl
  | ⟨2, _⟩ => rfl

/-- One of four centroids, taken at a position. -/
theorem take4_at {x : FVec Ideal S4 .f32} {ix : IVec S4096x128 32} {r : Fin 4096} {c : Fin 128} (b : Fin 4)
    (hb : ix (ix2 r c) = BitVec.ofNat 32 b.val) : take4 x ix (ix2 r c) = x (ix1 b) := by
  have hs := starts_at (by decide) 4#32 b hb
  have h0 : ∀ b : Fin 4, IntOp.cmpi .sge (BitVec.ofNat 32 b.val) 0#32 = 1#1 := by decide
  have h1 : ∀ b : Fin 4, IntOp.cmpi .sle (BitVec.ofNat 32 b.val) 3#32 = 1#1 := by decide
  have h2 : ∀ b : Fin 4, min (BitVec.ofNat 32 b.val).toInt.toNat 3 = b.val := by decide
  have hr : inRange 3#32 (starts 4#32 ix) (ix2 r c) = 1#1 := inRange_at hs (h0 b) (h1 b)
  have hg : Host.gather gather_S4_S4096x128x1_S4096x128_n_0_n_n_0_2_1 x (starts 4#32 ix) (ix2 r c) = x (ix1 b) := by
    refine (ValueIdx.gather_take_apply (by decide) _ x (starts 4#32 ix) (ix2 r c)).trans ?_
    refine congrArg x (congrArg ix1 (Fin.ext ?_))
    show min (starts 4#32 ix (ValueIdx.takeIdx (ix2 r c))).toInt.toNat 3 = b.val
    rw [takeIdx_eq, hs]
    exact h2 b
  unfold take4
  show Scalar.select _ _ _ = _
  rw [hr, hg]
  rfl

/-- One of two centroids, taken at a position. -/
theorem take2_at {x : FVec Ideal S2 .f32} {ix : IVec S4096x128 32} {r : Fin 4096} {c : Fin 128} (b : Fin 2)
    (hb : ix (ix2 r c) = BitVec.ofNat 32 b.val) : take2 x ix (ix2 r c) = x (ix1 b) := by
  have hs := starts_at (by decide) 2#32 b hb
  have h0 : ∀ b : Fin 2, IntOp.cmpi .sge (BitVec.ofNat 32 b.val) 0#32 = 1#1 := by decide
  have h1 : ∀ b : Fin 2, IntOp.cmpi .sle (BitVec.ofNat 32 b.val) 1#32 = 1#1 := by decide
  have h2 : ∀ b : Fin 2, min (BitVec.ofNat 32 b.val).toInt.toNat 1 = b.val := by decide
  have hr : inRange 1#32 (starts 2#32 ix) (ix2 r c) = 1#1 := inRange_at hs (h0 b) (h1 b)
  have hg : Host.gather gather_S2_S4096x128x1_S4096x128_n_0_n_n_0_2_1 x (starts 2#32 ix) (ix2 r c) = x (ix1 b) := by
    refine (ValueIdx.gather_take_apply (by decide) _ x (starts 2#32 ix) (ix2 r c)).trans ?_
    refine congrArg x (congrArg ix1 (Fin.ext ?_))
    show min (starts 2#32 ix (ValueIdx.takeIdx (ix2 r c))).toInt.toNat 1 = b.val
    rw [takeIdx_eq, hs]
    exact h2 b
  unfold take2
  show Scalar.select _ _ _ = _
  rw [hr, hg]
  rfl

/-- The centroid of four that the reference finds nearest is the one which the midpoints pick. -/
theorem near4_at {w : FVec Ideal S4096x128 .f32} {W : Fin 4096 → Fin 128 → ℝ} (hw : ∀ r c, w (ix2 r c) = ((W r c : ℝ) : EReal))
    {x : FVec Ideal S4 .f32} {C : Fin 4 → ℝ} (hx : ∀ b, x (ix1 b) = ((C b : ℝ) : EReal))
    (h01 : C 0 ≤ C 1) (h12 : C 1 ≤ C 2) (h23 : C 2 ≤ C 3) (r : Fin 4096) (c : Fin 128) :
    take4 x (code4 w x) (ix2 r c) = ((pick4 C (W r c) : ℝ) : EReal) := by
  have hd : ∀ b : Fin 4, mulf (gaps4 w x) (gaps4 w x) (ix3 r c b) = (((W r c - C b) * (W r c - C b) : ℝ) : EReal) := by
    intro b
    pointwise [gaps4]
    simp only [hw, hx, ← EReal.coe_sub, ← EReal.coe_mul]
  obtain ⟨b, hb, hl, hs⟩ := least_at (by decide) (by decide) hd reducesTo_S4096x128x4_S4096x128_d2 h_S_
  have hc : code4 w x (ix2 r c) = BitVec.ofNat 32 b.val := hb
  rw [take4_at b hc, hx, first4 h01 h12 h23 ⟨hl, hs⟩]

/-- The centroid of two that the reference finds nearest is the one which the midpoints pick. -/
theorem near2_at {w : FVec Ideal S4096x128 .f32} {W : Fin 4096 → Fin 128 → ℝ} (hw : ∀ r c, w (ix2 r c) = ((W r c : ℝ) : EReal))
    {x : FVec Ideal S2 .f32} {C : Fin 2 → ℝ} (hx : ∀ b, x (ix1 b) = ((C b : ℝ) : EReal))
    (h01 : C 0 ≤ C 1) (r : Fin 4096) (c : Fin 128) :
    take2 x (code2 w x) (ix2 r c) = ((pick2 C (W r c) : ℝ) : EReal) := by
  have hd : ∀ b : Fin 2, mulf (gaps2 w x) (gaps2 w x) (ix3 r c b) = (((W r c - C b) * (W r c - C b) : ℝ) : EReal) := by
    intro b
    pointwise [gaps2]
    simp only [hw, hx, ← EReal.coe_sub, ← EReal.coe_mul]
  obtain ⟨b, hb, hl, hs⟩ := least_at (by decide) (by decide) hd reducesTo_S4096x128x2_S4096x128_d2 h_S_
  have hc : code2 w x (ix2 r c) = BitVec.ofNat 32 b.val := hb
  rw [take2_at b hc, hx, first2 h01 ⟨hl, hs⟩]

/-! ## What is left of the entries, its sketch, and the halves of the score -/

section
variable {w : FVec Ideal S4096x128 .f32} {W : Fin 4096 → Fin 128 → ℝ}

/-- What is left of the entries after their centroids. -/
theorem rest_at (hw : ∀ r c, w (ix2 r c) = ((W r c : ℝ) : EReal)) {e : FVec Ideal S4096x128 .f32} {f : ℝ → ℝ}
    (he : ∀ r c, e (ix2 r c) = ((f (W r c) : ℝ) : EReal)) (r : Fin 4096) (c : Fin 128) :
    subf w e (ix2 r c) = ((rest f (W r) c : ℝ) : EReal) := by
  pointwise []
  rw [hw, he, ← EReal.coe_sub]
  rfl

/-- The norms of rows. -/
theorem restNorm_at (hw : ∀ r c, w (ix2 r c) = ((W r c : ℝ) : EReal)) (r : Fin 4096) :
    restNorm w (ix1 r) = ((len (W r) : ℝ) : EReal) := by
  pointwise [restNorm]
  simp only [hw, ← EReal.coe_mul, coe_sum, sqrt_squares]
  rfl

/-- Rows against the rows of a sketching matrix. -/
theorem sketched_at (hw : ∀ r c, w (ix2 r c) = ((W r c : ℝ) : EReal)) {S : FVec Ideal S128x128 .f32}
    {T : Fin 128 → Fin 128 → ℝ} (hS : ∀ i c, S (ix2 i c) = ((T i c : ℝ) : EReal)) (r : Fin 4096) (n : Fin 128) :
    sketched w S (ix2 r n) = ((∑ c, W r c * T n c : ℝ) : EReal) := by
  pointwise [sketched]
  simp only [hw, hS, ← EReal.coe_mul, coe_sum]

/-- The signs of entries. -/
theorem signs_at (hw : ∀ r c, w (ix2 r c) = ((W r c : ℝ) : EReal)) (r : Fin 4096) (c : Fin 128) :
    signs w (ix2 r c) = ((sgn (W r c) : ℝ) : EReal) := by
  pointwise [signs]
  simp only [hw, ofBits_neg_one, one_coe, coe_ite, zero_le_coe]
  rfl

/-- Rows against rows. -/
theorem against_at (hw : ∀ r c, w (ix2 r c) = ((W r c : ℝ) : EReal)) {e : FVec Ideal S4096x128 .f32} {E : Fin 4096 → Fin 128 → ℝ}
    (he : ∀ r c, e (ix2 r c) = ((E r c : ℝ) : EReal)) (i j : Fin 4096) :
    against w e (ix2 i j) = ((∑ c, W i c * E j c : ℝ) : EReal) := by
  pointwise [against]
  simp only [hw, he, ← EReal.coe_mul, coe_sum]

end

/-- The factor of the sketch. -/
theorem root_at : (id (Host.divf (F := Ideal) root (constant S_ .f32 0x43000000#32)) : FVec Ideal S_ .f32) ix0 = ((scale : ℝ) : EReal) := by
  show Host.divf (F := Ideal) root (constant S_ .f32 0x43000000#32) ix0 = _
  pointwise [root]
  simp only [ofBits_128, ofBits_half_pi, Ideal.sqrt_coe, if_neg (show ¬ ((13176795 / 8388608 : ℝ) < 0) by norm_num),
    div_real (show (128 : ℝ) ≠ 0 by norm_num)]
  rfl

/-- One half of the score from its parts. -/
theorem halfScore_at {z b : FVec Ideal S4096x4096 .f32} {Z B : Fin 4096 → Fin 4096 → ℝ} (hz : ∀ i j, z (ix2 i j) = ((Z i j : ℝ) : EReal))
    (hb : ∀ i j, b (ix2 i j) = ((B i j : ℝ) : EReal)) {n : FVec Ideal S4096 .f32} {N : Fin 4096 → ℝ}
    (hn : ∀ j, n (ix1 j) = ((N j : ℝ) : EReal)) (i j : Fin 4096) :
    halfScore z b n root (ix2 i j) = ((Z i j + B i j * scale * N j : ℝ) : EReal) := by
  pointwise [halfScore, perColumn]
  rw [hz, hb, hn, root_at, ← EReal.coe_mul, ← EReal.coe_mul, ← EReal.coe_add]

/-- The upper half of the score. -/
theorem upperScore_at {x : FVec Ideal S4 .f32} {C : Fin 4 → ℝ} (hx : ∀ b, x (ix1 b) = ((C b : ℝ) : EReal))
    (h01 : C 0 ≤ C 1) (h12 : C 1 ≤ C 2) (h23 : C 2 ≤ C 3)
    {S : FVec Ideal S128x128 .f32} {T : Fin 128 → Fin 128 → ℝ} (hS : ∀ i c, S (ix2 i c) = ((T i c : ℝ) : EReal))
    {y w : FVec Ideal S4096x128 .f32} {Y W : Fin 4096 → Fin 128 → ℝ} (hy : ∀ r c, y (ix2 r c) = ((Y r c : ℝ) : EReal))
    (hw : ∀ r c, w (ix2 r c) = ((W r c : ℝ) : EReal)) (i j : Fin 4096) :
    upperScore x S y w (ix2 i j) = ((dotParts (pick4 C) T (W j) (Y i) : ℝ) : EReal) := by
  have hn := near4_at hw hx h01 h12 h23
  have hr := rest_at hw hn
  exact halfScore_at (against_at hy hn) (against_at (sketched_at hy hS) (signs_at (sketched_at hr hS))) (restNorm_at hr) i j

/-- The lower half of the score. -/
theorem lowerScore_at {x : FVec Ideal S2 .f32} {C : Fin 2 → ℝ} (hx : ∀ b, x (ix1 b) = ((C b : ℝ) : EReal))
    (h01 : C 0 ≤ C 1)
    {S : FVec Ideal S128x128 .f32} {T : Fin 128 → Fin 128 → ℝ} (hS : ∀ i c, S (ix2 i c) = ((T i c : ℝ) : EReal))
    {y w : FVec Ideal S4096x128 .f32} {Y W : Fin 4096 → Fin 128 → ℝ} (hy : ∀ r c, y (ix2 r c) = ((Y r c : ℝ) : EReal))
    (hw : ∀ r c, w (ix2 r c) = ((W r c : ℝ) : EReal)) (i j : Fin 4096) :
    lowerScore x S y w (ix2 i j) = ((dotParts (pick2 C) T (W j) (Y i) : ℝ) : EReal) := by
  have hn := near2_at hw hx h01
  have hr := rest_at hw hn
  exact halfScore_at (against_at hy hn) (against_at (sketched_at hy hS) (signs_at (sketched_at hr hS))) (restNorm_at hr) i j

/-- The whole score, entry by entry. -/
theorem scoreOf_at {q k : FVec Ideal S4096x256 .f32} {Q K : Fin 4096 → Fin 256 → ℝ} (hq : ∀ r a, q (ix2 r a) = ((Q r a : ℝ) : EReal))
    (hk : ∀ r a, k (ix2 r a) = ((K r a : ℝ) : EReal)) {P : FVec Ideal S256x256 .f32} {R : Fin 256 → Fin 256 → ℝ}
    (hP : ∀ i a, P (ix2 i a) = ((R i a : ℝ) : EReal)) {x : FVec Ideal S4 .f32} {C : Fin 4 → ℝ}
    (hx : ∀ b, x (ix1 b) = ((C b : ℝ) : EReal)) (h01 : C 0 ≤ C 1) (h12 : C 1 ≤ C 2) (h23 : C 2 ≤ C 3)
    {z : FVec Ideal S2 .f32} {D : Fin 2 → ℝ} (hz : ∀ b, z (ix1 b) = ((D b : ℝ) : EReal)) (hD : D 0 ≤ D 1)
    {A B : FVec Ideal S128x128 .f32} {S T : Fin 128 → Fin 128 → ℝ} (hA : ∀ i c, A (ix2 i c) = ((S i c : ℝ) : EReal))
    (hB : ∀ i c, B (ix2 i c) = ((T i c : ℝ) : EReal)) (i j : Fin 4096) :
    scoreOf q k P x z A B (ix2 i j) = ((entry (pick4 C) (pick2 D) R S T (Q i) (K j) : ℝ) : EReal) := by
  have hu := upperScore_at hx h01 h12 h23 hA (upperHalf_at hq hP) (upperHalf_at (unitKey_at hk) hP) i j
  have hl := lowerScore_at hz hD hB (lowerHalf_at hq hP) (lowerHalf_at (unitKey_at hk) hP) i j
  pointwise [scoreOf, perColumn]
  rw [hu, hl, keyNorm_at hk, ← EReal.coe_add, ← EReal.coe_mul]
  rfl

end Cert.ReferenceIdeal.Hand
-- ==== Proof.Pre.lean ====
module

public import proofs.«01_k».proof.Defs
public import proofs.«01_k».proof.Proof.Gen.Pre_finite_sorted
public import proofs.«01_k».proof.Proof.Real
public import Idealize.ShloMosaic.Lib.Pointwise

@[expose] public section

set_option maxRecDepth 16384

noncomputable section

namespace Cert.Pre_finite_sorted.Hand

open Cert.Pre_finite_sorted Cert.Pre_finite_sorted.Gen Cert.Math
open Idealize.ShloMosaic

/-! ## What the precondition says of the arguments -/

/-- An array whose absolute values are all below infinity holds real numbers. -/
theorem real_of {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) :
    x i = ((EReal.toReal (x i) : ℝ) : EReal) := by
  have hi : BitVec.ofBool (decide (max (x i : EReal) (-(x i : EReal)) < Ideal.ofBits .f32 0x7F800000#32)) = 1#1 := congrFun h i
  have hlt : max (x i : EReal) (-(x i : EReal)) < ⊤ := by
    by_contra hn
    rw [ofBits_inf, decide_eq_false hn] at hi
    exact absurd hi (by decide)
  refine (EReal.coe_toReal (fun ht => ?_) (fun hb => ?_)).symm
  · rw [ht] at hlt; exact absurd hlt (by simp)
  · rw [hb] at hlt; exact absurd hlt (by simp)

/-- A comparison of two real numbers that came out true. -/
theorem le_of {a b : EReal} {x y : ℝ} (ha : a = (x : EReal)) (hb : b = (y : EReal)) (h : BitVec.ofBool (decide (a ≤ b)) = 1#1) : x ≤ y := by
  by_contra hn
  rw [ha, hb, decide_eq_false (fun hle => hn (EReal.coe_le_coe_iff.mp hle))] at h
  exact absurd h (by decide)

/-- What `finite_sorted` says: the arguments hold real numbers, and both lists of centroids ascend. -/
theorem unpack (x0 x1 : FVec Ideal S4096x256 .f32) (x2 : FVec Ideal S256x256 .f32) (x3 : FVec Ideal S4 .f32) (x4 : FVec Ideal S2 .f32)
    (x5 x6 : FVec Ideal S128x128 .f32)
    (h : (fn (F := Ideal) x0 x1 x2 x3 x4 x5 x6).1 = (fun _ => 1#1)
      ∧ (fn (F := Ideal) x0 x1 x2 x3 x4 x5 x6).2.1 = (fun _ => 1#1)
      ∧ (fn (F := Ideal) x0 x1 x2 x3 x4 x5 x6).2.2.1 = (fun _ => 1#1)
      ∧ (fn (F := Ideal) x0 x1 x2 x3 x4 x5 x6).2.2.2.1 = (fun _ => 1#1)
      ∧ (fn (F := Ideal) x0 x1 x2 x3 x4 x5 x6).2.2.2.2.1 = (fun _ => 1#1)
      ∧ (fn (F := Ideal) x0 x1 x2 x3 x4 x5 x6).2.2.2.2.2.1 = (fun _ => 1#1)
      ∧ (fn (F := Ideal) x0 x1 x2 x3 x4 x5 x6).2.2.2.2.2.2.1 = (fun _ => 1#1)
      ∧ (fn (F := Ideal) x0 x1 x2 x3 x4 x5 x6).2.2.2.2.2.2.2.1 = (fun _ => 1#1)
      ∧ (fn (F := Ideal) x0 x1 x2 x3 x4 x5 x6).2.2.2.2.2.2.2.2 = (fun _ => 1#1)) :
    ∃ (Q K : Fin 4096 → Fin 256 → ℝ) (P : Fin 256 → Fin 256 → ℝ) (C : Fin 4 → ℝ) (D : Fin 2 → ℝ) (S T : Fin 128 → Fin 128 → ℝ),
      (∀ r a, x0 (ix2 r a) = ((Q r a : ℝ) : EReal)) ∧ (∀ r a, x1 (ix2 r a) = ((K r a : ℝ) : EReal))
      ∧ (∀ r a, x2 (ix2 r a) = ((P r a : ℝ) : EReal)) ∧ (∀ b, x3 (ix1 b) = ((C b : ℝ) : EReal))
      ∧ (∀ b, x4 (ix1 b) = ((D b : ℝ) : EReal)) ∧ (∀ r a, x5 (ix2 r a) = ((S r a : ℝ) : EReal))
      ∧ (∀ r a, x6 (ix2 r a) = ((T r a : ℝ) : EReal)) ∧ C 0 ≤ C 1 ∧ C 1 ≤ C 2 ∧ C 2 ≤ C 3 ∧ D 0 ≤ D 1 := by
  obtain ⟨h0, h1, h2, h3, h4, h5, h6, h7, h8⟩ := h
  have r3 := real_of x3 _ h3
  have r4 := real_of x4 _ h4
  have up (b : Fin 3) : EReal.toReal (x3 (ix1 (⟨b.val, by omega⟩ : Fin 4))) ≤ EReal.toReal (x3 (ix1 (⟨b.val + 1, by omega⟩ : Fin 4))) := by
    have e : BitVec.ofBool (decide ((extractStridedSlice S3 ![0] x3 Facts.slices_S4_S3_0 (ix1 b) : EReal)
        ≤ extractStridedSlice S3 ![1] x3 Facts.slices_S4_S3_1 (ix1 b))) = 1#1 := congrFun h7 (ix1 b)
    refine le_of ((congrArg x3 ?_).trans (r3 _)) ((congrArg x3 ?_).trans (r3 _)) e
    · funext a
      match a with
      | ⟨0, _⟩ => exact Fin.ext (show 0 + b.val = b.val by omega)
    · funext a
      match a with
      | ⟨0, _⟩ => exact Fin.ext (show 1 + b.val = b.val + 1 by omega)
  have vp : EReal.toReal (x4 (ix1 (0 : Fin 2))) ≤ EReal.toReal (x4 (ix1 (1 : Fin 2))) := by
    have e : BitVec.ofBool (decide ((extractStridedSlice S1 ![0] x4 Facts.slices_S2_S1_0 (ix1 (0 : Fin 1)) : EReal)
        ≤ extractStridedSlice S1 ![1] x4 Facts.slices_S2_S1_1 (ix1 (0 : Fin 1)))) = 1#1 := congrFun h8 (ix1 0)
    refine le_of ((congrArg x4 ?_).trans (r4 _)) ((congrArg x4 ?_).trans (r4 _)) e
    · funext a
      match a with
      | ⟨0, _⟩ => rfl
    · funext a
      match a with
      | ⟨0, _⟩ => rfl
  exact ⟨fun r a => EReal.toReal (x0 (ix2 r a)), fun r a => EReal.toReal (x1 (ix2 r a)), fun r a => EReal.toReal (x2 (ix2 r a)),
    fun b => EReal.toReal (x3 (ix1 b)), fun b => EReal.toReal (x4 (ix1 b)), fun r a => EReal.toReal (x5 (ix2 r a)),
    fun r a => EReal.toReal (x6 (ix2 r a)), fun r a => real_of x0 _ h0 _, fun r a => real_of x1 _ h1 _, fun r a => real_of x2 _ h2 _,
    fun b => r3 _, fun b => r4 _, fun r a => real_of x5 _ h5 _, fun r a => real_of x6 _ h6 _, up 0, up 1, up 2, vp⟩

end Cert.Pre_finite_sorted.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_sorted
public import proofs.«01_k».proof.Proof.Run
public import proofs.«01_k».proof.Proof.Words
public import proofs.«01_k».proof.Proof.KernelOut
public import proofs.«01_k».proof.Proof.RefRun
public import proofs.«01_k».proof.Proof.RefValue
public import proofs.«01_k».proof.Proof.Pre
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's frame. -/
theorem frame_kernel : Cert.quiescent_Kernel := Cert.Kernel.Hand.frame

/-- The idealized kernel's frame, from any memory. -/
theorem frame_ideal : Cert.quiescent_KernelIdeal := fun m g _ =>
  (θ_run _ _ _).mono (fun _ h => h.2) (Cert.KernelIdeal.Hand.run m g)

/-- The same under the precondition. -/
theorem frame_ideal_pre : Cert.quiescent_KernelIdeal_pre_finite_sorted := fun m g _ => frame_ideal m g trivial

/-- The reference's frame, from any memory. -/
theorem frame_reference : Cert.quiescent_ReferenceIdeal := fun m g _ =>
  (θ_run _ _ _).mono (fun _ h => ⟨fun c => (h.1 c).2, h.2⟩) (Cert.ReferenceIdeal.Hand.run m g)

/-- The same under the precondition. -/
theorem frame_reference_pre : Cert.quiescent_ReferenceIdeal_pre_finite_sorted := fun m g _ => frame_reference m g trivial

/-- The named constant is the one stated. -/
theorem preserves : Cert.preserves_Kernel_KernelIdeal :=
  IdealRules.named_const.statement Cert.KernelIdeal.κ "qjl_scale" .f32 0x3C206C99#32
    (((Real.sqrt (13176795 / 8388608)) * (1 / 128) : ℝ) : EReal) rfl

/-- The idealized kernel and the reference end with the same result. -/
theorem algebraic : Cert.algebraic_KernelIdeal_ReferenceIdeal_pre_finite_sorted := by
  intro m g m' g' hpre hargs
  refine ⟨fun c => (Cert.KernelIdeal.Hand.dats m 0 c).arrAt 7 Cert.KernelIdeal.cfg0.N,
    (θ_run _ _ _).mono (fun _ h c => ⟨h.1 c, h.2.1 c⟩) (Cert.KernelIdeal.Hand.run m g),
    (θ_run _ _ _).mono (fun _ h c => ⟨(h.1 c).1.trans ?_, (h.1 c).2⟩) (Cert.ReferenceIdeal.Hand.run m' g')⟩
  obtain ⟨a0, a1, a2, a3, a4, a5, a6⟩ := hargs c
  obtain ⟨Q, K, P, C, D, S, T, hQ, hK, hP, hC, hD, hS, hT, h01, h12, h23, hd⟩ := Cert.Pre_finite_sorted.Hand.unpack _ _ _ _ _ _ _ (hpre c)
  refine Eq.trans ?_ (Cert.KernelIdeal.Hand.result_eq hQ hK hP hC hD hS hT).symm
  rw [a0, a1, a2, a3, a4, a5, a6]
  funext x
  obtain ⟨i, j, rfl⟩ : ∃ (i j : Fin 4096), x = ix2 i j := ⟨x 0, x 1, by
    funext a
    match a with
    | ⟨0, _⟩ => rfl
    | ⟨1, _⟩ => rfl⟩
  exact Cert.ReferenceIdeal.Hand.scoreOf_at hQ hK hP hC h01 h12 h23 hD hd hS hT i j

/-- The facts of the four programs and the claims above, together. -/
theorem claim : Cert.Claim := ⟨Cert.Kernel.Gen.facts, Cert.KernelIdeal.Gen.facts, Cert.ReferenceIdeal.Gen.facts, Cert.Pre_finite_sorted.Gen.facts,
  frame_kernel, frame_ideal, frame_ideal_pre, frame_reference, frame_reference_pre, preserves, algebraic⟩

end Cert.Proof

end
